-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9)
      ∧ r.2.mem ((c.tc : Thread Cert.Kernel2.nD Cert.Kernel2.τ).loc Cert.Kernel2.main_arg10) = m ((c.tc : Thread Cert.Kernel2.nD Cert.Kernel2.τ).loc Cert.Kernel2.main_arg10)
      ∧ r.2.mem ((c.tc : Thread Cert.Kernel2.nD Cert.Kernel2.τ).loc Cert.Kernel2.main_arg11) = m ((c.tc : Thread Cert.Kernel2.nD Cert.Kernel2.τ).loc Cert.Kernel2.main_arg11)
      ∧ r.2.mem ((c.tc : Thread Cert.Kernel2.nD Cert.Kernel2.τ).loc Cert.Kernel2.main_arg12) = m ((c.tc : Thread Cert.Kernel2.nD Cert.Kernel2.τ).loc Cert.Kernel2.main_arg12)
      ∧ r.2.mem ((c.tc : Thread Cert.Kernel2.nD Cert.Kernel2.τ).loc Cert.Kernel2.main_arg13) = m ((c.tc : Thread Cert.Kernel2.nD Cert.Kernel2.τ).loc Cert.Kernel2.main_arg13)
      ∧ r.2.mem ((c.tc : Thread Cert.Kernel2.nD Cert.Kernel2.τ).loc Cert.Kernel2.main_arg14) = m ((c.tc : Thread Cert.Kernel2.nD Cert.Kernel2.τ).loc Cert.Kernel2.main_arg14))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
      ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11)
      ∧ r.2.mem ((c.tc : Thread Cert.Kernel2Ideal.nD Cert.Kernel2Ideal.τ).loc Cert.Kernel2Ideal.main_arg12) = m ((c.tc : Thread Cert.Kernel2Ideal.nD Cert.Kernel2Ideal.τ).loc Cert.Kernel2Ideal.main_arg12)
      ∧ r.2.mem ((c.tc : Thread Cert.Kernel2Ideal.nD Cert.Kernel2Ideal.τ).loc Cert.Kernel2Ideal.main_arg13) = m ((c.tc : Thread Cert.Kernel2Ideal.nD Cert.Kernel2Ideal.τ).loc Cert.Kernel2Ideal.main_arg13)
      ∧ r.2.mem ((c.tc : Thread Cert.Kernel2Ideal.nD Cert.Kernel2Ideal.τ).loc Cert.Kernel2Ideal.main_arg14) = m ((c.tc : Thread Cert.Kernel2Ideal.nD Cert.Kernel2Ideal.τ).loc Cert.Kernel2Ideal.main_arg14))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10)
      ∧ r.2.mem ((c.tc : Thread Cert.Reference2Ideal.nD Cert.Reference2Ideal.τ).loc Cert.Reference2Ideal.main_arg11) = m ((c.tc : Thread Cert.Reference2Ideal.nD Cert.Reference2Ideal.τ).loc Cert.Reference2Ideal.main_arg11)
      ∧ r.2.mem ((c.tc : Thread Cert.Reference2Ideal.nD Cert.Reference2Ideal.τ).loc Cert.Reference2Ideal.main_arg12) = m ((c.tc : Thread Cert.Reference2Ideal.nD Cert.Reference2Ideal.τ).loc Cert.Reference2Ideal.main_arg12)
      ∧ r.2.mem ((c.tc : Thread Cert.Reference2Ideal.nD Cert.Reference2Ideal.τ).loc Cert.Reference2Ideal.main_arg13) = m ((c.tc : Thread Cert.Reference2Ideal.nD Cert.Reference2Ideal.τ).loc Cert.Reference2Ideal.main_arg13)
      ∧ r.2.mem ((c.tc : Thread Cert.Reference2Ideal.nD Cert.Reference2Ideal.τ).loc Cert.Reference2Ideal.main_arg14) = m ((c.tc : Thread Cert.Reference2Ideal.nD Cert.Reference2Ideal.τ).loc Cert.Reference2Ideal.main_arg14))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v27_0)) (v1 : (c : Dev Cert.KernelIdeal.nD) → Buf (Elt Ideal) ((c.tc : Thread Cert.KernelIdeal.nD Cert.KernelIdeal.τ).loc Cert.KernelIdeal.main_v27_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v27_0) = v0 c
          ∧ r.2.mem ((c.tc : Thread Cert.KernelIdeal.nD Cert.KernelIdeal.τ).loc Cert.KernelIdeal.main_v27_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v63) = v0 c
          ∧ r.2.mem ((c.tc : Thread Cert.ReferenceIdeal.nD Cert.ReferenceIdeal.τ).loc Cert.ReferenceIdeal.main_v57) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)
      ∧ m' ((c.tc : Thread Cert.Reference2Ideal.nD Cert.Reference2Ideal.τ).loc Cert.Reference2Ideal.main_arg10) = m ((c.tc : Thread Cert.Kernel2Ideal.nD Cert.Kernel2Ideal.τ).loc Cert.Kernel2Ideal.main_arg10)
      ∧ m' ((c.tc : Thread Cert.Reference2Ideal.nD Cert.Reference2Ideal.τ).loc Cert.Reference2Ideal.main_arg11) = m ((c.tc : Thread Cert.Kernel2Ideal.nD Cert.Kernel2Ideal.τ).loc Cert.Kernel2Ideal.main_arg11)
      ∧ m' ((c.tc : Thread Cert.Reference2Ideal.nD Cert.Reference2Ideal.τ).loc Cert.Reference2Ideal.main_arg12) = m ((c.tc : Thread Cert.Kernel2Ideal.nD Cert.Kernel2Ideal.τ).loc Cert.Kernel2Ideal.main_arg12)
      ∧ m' ((c.tc : Thread Cert.Reference2Ideal.nD Cert.Reference2Ideal.τ).loc Cert.Reference2Ideal.main_arg13) = m ((c.tc : Thread Cert.Kernel2Ideal.nD Cert.Kernel2Ideal.τ).loc Cert.Kernel2Ideal.main_arg13)
      ∧ m' ((c.tc : Thread Cert.Reference2Ideal.nD Cert.Reference2Ideal.τ).loc Cert.Reference2Ideal.main_arg14) = m ((c.tc : Thread Cert.Kernel2Ideal.nD Cert.Kernel2Ideal.τ).loc Cert.Kernel2Ideal.main_arg14)) →
    ∃ (v0 : (c : Dev Cert.Kernel2Ideal.nD) → Buf (Elt Ideal) ((c.tc : Thread Cert.Kernel2Ideal.nD Cert.Kernel2Ideal.τ).loc Cert.Kernel2Ideal.main_v30_0)) (v1 : (c : Dev Cert.Kernel2Ideal.nD) → Buf (Elt Ideal) ((c.tc : Thread Cert.Kernel2Ideal.nD Cert.Kernel2Ideal.τ).loc Cert.Kernel2Ideal.main_v30_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v30_0) = v0 c
          ∧ r.2.mem ((c.tc : Thread Cert.Kernel2Ideal.nD Cert.Kernel2Ideal.τ).loc Cert.Kernel2Ideal.main_v30_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
          ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
          ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11)
          ∧ r.2.mem ((c.tc : Thread Cert.Kernel2Ideal.nD Cert.Kernel2Ideal.τ).loc Cert.Kernel2Ideal.main_arg12) = m ((c.tc : Thread Cert.Kernel2Ideal.nD Cert.Kernel2Ideal.τ).loc Cert.Kernel2Ideal.main_arg12)
          ∧ r.2.mem ((c.tc : Thread Cert.Kernel2Ideal.nD Cert.Kernel2Ideal.τ).loc Cert.Kernel2Ideal.main_arg13) = m ((c.tc : Thread Cert.Kernel2Ideal.nD Cert.Kernel2Ideal.τ).loc Cert.Kernel2Ideal.main_arg13)
          ∧ r.2.mem ((c.tc : Thread Cert.Kernel2Ideal.nD Cert.Kernel2Ideal.τ).loc Cert.Kernel2Ideal.main_arg14) = m ((c.tc : Thread Cert.Kernel2Ideal.nD Cert.Kernel2Ideal.τ).loc Cert.Kernel2Ideal.main_arg14))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v91) = v0 c
          ∧ r.2.mem ((c.tc : Thread Cert.Reference2Ideal.nD Cert.Reference2Ideal.τ).loc Cert.Reference2Ideal.main_v85) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9)
          ∧ r.2.mem ((c.tc : Thread Cert.Reference2Ideal.nD Cert.Reference2Ideal.τ).loc Cert.Reference2Ideal.main_arg10) = m' ((c.tc : Thread Cert.Reference2Ideal.nD Cert.Reference2Ideal.τ).loc Cert.Reference2Ideal.main_arg10)
          ∧ r.2.mem ((c.tc : Thread Cert.Reference2Ideal.nD Cert.Reference2Ideal.τ).loc Cert.Reference2Ideal.main_arg11) = m' ((c.tc : Thread Cert.Reference2Ideal.nD Cert.Reference2Ideal.τ).loc Cert.Reference2Ideal.main_arg11)
          ∧ r.2.mem ((c.tc : Thread Cert.Reference2Ideal.nD Cert.Reference2Ideal.τ).loc Cert.Reference2Ideal.main_arg12) = m' ((c.tc : Thread Cert.Reference2Ideal.nD Cert.Reference2Ideal.τ).loc Cert.Reference2Ideal.main_arg12)
          ∧ r.2.mem ((c.tc : Thread Cert.Reference2Ideal.nD Cert.Reference2Ideal.τ).loc Cert.Reference2Ideal.main_arg13) = m' ((c.tc : Thread Cert.Reference2Ideal.nD Cert.Reference2Ideal.τ).loc Cert.Reference2Ideal.main_arg13)
          ∧ r.2.mem ((c.tc : Thread Cert.Reference2Ideal.nD Cert.Reference2Ideal.τ).loc Cert.Reference2Ideal.main_arg14) = m' ((c.tc : Thread Cert.Reference2Ideal.nD Cert.Reference2Ideal.τ).loc Cert.Reference2Ideal.main_arg14))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)) →
    ∃ (v0 : (c : Dev Cert.Kernel3Ideal.nD) → Buf (Elt Ideal) ((c.tc : Thread Cert.Kernel3Ideal.nD Cert.Kernel3Ideal.τ).loc Cert.Kernel3Ideal.main_v15_2)) (v1 : (c : Dev Cert.Kernel3Ideal.nD) → Buf (Elt Ideal) ((c.tc : Thread Cert.Kernel3Ideal.nD Cert.Kernel3Ideal.τ).loc Cert.Kernel3Ideal.main_v15_3)) (v2 : (c : Dev Cert.Kernel3Ideal.nD) → Buf (Elt Ideal) ((c.tc : Thread Cert.Kernel3Ideal.nD Cert.Kernel3Ideal.τ).loc Cert.Kernel3Ideal.main_v15_4)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v15_2) = v0 c
          ∧ r.2.mem ((c.tc : Thread Cert.Kernel3Ideal.nD Cert.Kernel3Ideal.τ).loc Cert.Kernel3Ideal.main_v15_3) = v1 c
          ∧ r.2.mem ((c.tc : Thread Cert.Kernel3Ideal.nD Cert.Kernel3Ideal.τ).loc Cert.Kernel3Ideal.main_v15_4) = v2 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v24) = v0 c
          ∧ r.2.mem ((c.tc : Thread Cert.Reference3Ideal.nD Cert.Reference3Ideal.τ).loc Cert.Reference3Ideal.main_v25) = v1 c
          ∧ r.2.mem ((c.tc : Thread Cert.Reference3Ideal.nD Cert.Reference3Ideal.τ).loc Cert.Reference3Ideal.main_v26) = v2 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)) →
    ∃ (v0 : (c : Dev Cert.Kernel4Ideal.nD) → Buf (Elt Ideal) ((c.tc : Thread Cert.Kernel4Ideal.nD Cert.Kernel4Ideal.τ).loc Cert.Kernel4Ideal.main_v14_0)) (v1 : (c : Dev Cert.Kernel4Ideal.nD) → Buf (Elt Ideal) ((c.tc : Thread Cert.Kernel4Ideal.nD Cert.Kernel4Ideal.τ).loc Cert.Kernel4Ideal.main_v14_1)) (v2 : (c : Dev Cert.Kernel4Ideal.nD) → Buf (Elt Ideal) ((c.tc : Thread Cert.Kernel4Ideal.nD Cert.Kernel4Ideal.τ).loc Cert.Kernel4Ideal.main_v14_2)) (v3 : (c : Dev Cert.Kernel4Ideal.nD) → Buf (Elt Ideal) ((c.tc : Thread Cert.Kernel4Ideal.nD Cert.Kernel4Ideal.τ).loc Cert.Kernel4Ideal.main_v14_3)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v14_0) = v0 c
          ∧ r.2.mem ((c.tc : Thread Cert.Kernel4Ideal.nD Cert.Kernel4Ideal.τ).loc Cert.Kernel4Ideal.main_v14_1) = v1 c
          ∧ r.2.mem ((c.tc : Thread Cert.Kernel4Ideal.nD Cert.Kernel4Ideal.τ).loc Cert.Kernel4Ideal.main_v14_2) = v2 c
          ∧ r.2.mem ((c.tc : Thread Cert.Kernel4Ideal.nD Cert.Kernel4Ideal.τ).loc Cert.Kernel4Ideal.main_v14_3) = v3 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v22) = v0 c
          ∧ r.2.mem ((c.tc : Thread Cert.Reference4Ideal.nD Cert.Reference4Ideal.τ).loc Cert.Reference4Ideal.main_v23) = v1 c
          ∧ r.2.mem ((c.tc : Thread Cert.Reference4Ideal.nD Cert.Reference4Ideal.τ).loc Cert.Reference4Ideal.main_v24) = v2 c
          ∧ r.2.mem ((c.tc : Thread Cert.Reference4Ideal.nD Cert.Reference4Ideal.τ).loc Cert.Reference4Ideal.main_v26) = v3 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
-- ==== Kernel.lean ====
abbrev S16x4096x1024 : Shape := ⟨3, ![16, 4096, 1024]⟩
abbrev S16x6x1024 : Shape := ⟨3, ![16, 6, 1024]⟩
abbrev S16x4096x512 : Shape := ⟨3, ![16, 4096, 512]⟩
abbrev S1024x1024 : Shape := ⟨2, ![1024, 1024]⟩
abbrev S1024 : Shape := ⟨1, ![1024]⟩
abbrev S1024x5632 : Shape := ⟨2, ![1024, 5632]⟩
abbrev S3x5632 : Shape := ⟨2, ![3, 5632]⟩
abbrev S5632 : Shape := ⟨1, ![5632]⟩
abbrev S2816x1024 : Shape := ⟨2, ![2816, 1024]⟩
abbrev S16x2x5632 : Shape := ⟨3, ![16, 2, 5632]⟩
abbrev S1024x2x11x256 : Shape := ⟨4, ![1024, 2, 11, 256]⟩
abbrev S2x11x1024x256 : Shape := ⟨4, ![2, 11, 1024, 256]⟩
abbrev S3x2x11x256 : Shape := ⟨4, ![3, 2, 11, 256]⟩
abbrev S2x11x3x256 : Shape := ⟨4, ![2, 11, 3, 256]⟩
abbrev S1x5632 : Shape := ⟨2, ![1, 5632]⟩
abbrev S1x2x11x256 : Shape := ⟨4, ![1, 2, 11, 256]⟩
abbrev S2x11x1x256 : Shape := ⟨4, ![2, 11, 1, 256]⟩
abbrev S_ : Shape := ⟨0, ![]⟩
abbrev S16x6x5632 : Shape := ⟨3, ![16, 6, 5632]⟩
abbrev S16x8x5632 : Shape := ⟨3, ![16, 8, 5632]⟩
abbrev S16x8x2x11x256 : Shape := ⟨5, ![16, 8, 2, 11, 256]⟩
abbrev S16x2x11x8x256 : Shape := ⟨5, ![16, 2, 11, 8, 256]⟩
abbrev S1x1024 : Shape := ⟨2, ![1, 1024]⟩
abbrev S1x11x1024x256 : Shape := ⟨4, ![1, 11, 1024, 256]⟩
abbrev S11x1024x256 : Shape := ⟨3, ![11, 1024, 256]⟩
abbrev S1x11x3x256 : Shape := ⟨4, ![1, 11, 3, 256]⟩
abbrev S11x3x256 : Shape := ⟨3, ![11, 3, 256]⟩
abbrev S1x11x1x256 : Shape := ⟨4, ![1, 11, 1, 256]⟩
abbrev S11x1x256 : Shape := ⟨3, ![11, 1, 256]⟩
abbrev S1x512x1024 : Shape := ⟨3, ![1, 512, 1024]⟩
abbrev S1x6x1024 : Shape := ⟨3, ![1, 6, 1024]⟩
abbrev S1x512x512 : Shape := ⟨3, ![1, 512, 512]⟩
abbrev S1x2x11x8x256 : Shape := ⟨5, ![1, 2, 11, 8, 256]⟩
abbrev S2x11x8x256 : Shape := ⟨4, ![2, 11, 8, 256]⟩
abbrev S512x2816 : Shape := ⟨2, ![512, 2816]⟩
abbrev S6x1024 : Shape := ⟨2, ![6, 1024]⟩
abbrev S512x512 : Shape := ⟨2, ![512, 512]⟩
abbrev S512x1024 : Shape := ⟨2, ![512, 1024]⟩
abbrev S512 : Shape := ⟨1, ![512]⟩
abbrev S512x1 : Shape := ⟨2, ![512, 1]⟩
abbrev S1x1024x256 : Shape := ⟨3, ![1, 1024, 256]⟩
abbrev S1024x256 : Shape := ⟨2, ![1024, 256]⟩
abbrev S512x256 : Shape := ⟨2, ![512, 256]⟩
abbrev S1x1x8x256 : Shape := ⟨4, ![1, 1, 8, 256]⟩
abbrev S8x256 : Shape := ⟨2, ![8, 256]⟩
abbrev S1x3x256 : Shape := ⟨3, ![1, 3, 256]⟩
abbrev S3x256 : Shape := ⟨2, ![3, 256]⟩
abbrev S1x1x256 : Shape := ⟨3, ![1, 1, 256]⟩
abbrev S1x256 : Shape := ⟨2, ![1, 256]⟩
abbrev S16x256 : Shape := ⟨2, ![16, 256]⟩
abbrev S504x256 : Shape := ⟨2, ![504, 256]⟩

abbrev nBuf : Space → Nat
  | .hbm => 41
  | .vmem => 25
  | .smem => 0
  | _ => 0

abbrev bufTy : (tb : Table) → Fin (tcTables nBuf tb) → BufTy
  | .hbm, ⟨0, _⟩ => ⟨S16x4096x1024, .f32⟩
  | .hbm, ⟨1, _⟩ => ⟨S16x6x1024, .f32⟩
  | .hbm, ⟨2, _⟩ => ⟨S16x4096x512, .f32⟩
  | .hbm, ⟨3, _⟩ => ⟨S16x4096x512, .f32⟩
  | .hbm, ⟨4, _⟩ => ⟨S1024x1024, .f32⟩
  | .hbm, ⟨5, _⟩ => ⟨S1024, .f32⟩
  | .hbm, ⟨6, _⟩ => ⟨S1024x5632, .f32⟩
  | .hbm, ⟨7, _⟩ => ⟨S3x5632, .f32⟩
  | .hbm, ⟨8, _⟩ => ⟨S5632, .f32⟩
  | .hbm, ⟨9, _⟩ => ⟨S2816x1024, .f32⟩
  | .hbm, ⟨10, _⟩ => ⟨S16x2x5632, .f32⟩
  | .hbm, ⟨11, _⟩ => ⟨S1024x5632, .bf16⟩
  | .hbm, ⟨12, _⟩ => ⟨S1024x2x11x256, .bf16⟩
  | .hbm, ⟨13, _⟩ => ⟨S2x11x1024x256, .bf16⟩
  | .hbm, ⟨14, _⟩ => ⟨S3x2x11x256, .f32⟩
  | .hbm, ⟨15, _⟩ => ⟨S2x11x3x256, .f32⟩
  | .hbm, ⟨16, _⟩ => ⟨S1x5632, .f32⟩
  | .hbm, ⟨17, _⟩ => ⟨S1x2x11x256, .f32⟩
  | .hbm, ⟨18, _⟩ => ⟨S2x11x1x256, .f32⟩
  | .hbm, ⟨19, _⟩ => ⟨S2816x1024, .bf16⟩
  | .hbm, ⟨20, _⟩ => ⟨S_, .f32⟩
  | .hbm, ⟨21, _⟩ => ⟨S16x6x5632, .f32⟩
  | .hbm, ⟨22, _⟩ => ⟨S16x8x5632, .f32⟩
  | .hbm, ⟨23, _⟩ => ⟨S16x8x2x11x256, .f32⟩
  | .hbm, ⟨24, _⟩ => ⟨S16x2x11x8x256, .f32⟩
  | .hbm, ⟨25, _⟩ => ⟨S1024x1024, .bf16⟩
  | .hbm, ⟨26, _⟩ => ⟨S1x1024, .f32⟩
  | .hbm, ⟨27, _⟩ => ⟨S1x11x1024x256, .bf16⟩
  | .hbm, ⟨28, _⟩ => ⟨S11x1024x256, .bf16⟩
  | .hbm, ⟨29, _⟩ => ⟨S1x11x1024x256, .bf16⟩
  | .hbm, ⟨30, _⟩ => ⟨S11x1024x256, .bf16⟩
  | .hbm, ⟨31, _⟩ => ⟨S1x11x3x256, .f32⟩
  | .hbm, ⟨32, _⟩ => ⟨S11x3x256, .f32⟩
  | .hbm, ⟨33, _⟩ => ⟨S1x11x3x256, .f32⟩
  | .hbm, ⟨34, _⟩ => ⟨S11x3x256, .f32⟩
  | .hbm, ⟨35, _⟩ => ⟨S1x11x1x256, .f32⟩
  | .hbm, ⟨36, _⟩ => ⟨S11x1x256, .f32⟩
  | .hbm, ⟨37, _⟩ => ⟨S1x11x1x256, .f32⟩
  | .hbm, ⟨38, _⟩ => ⟨S11x1x256, .f32⟩
  | .hbm, ⟨39, _⟩ => ⟨S16x4096x1024, .f32⟩
  | .hbm, ⟨40, _⟩ => ⟨S16x2x11x8x256, .f32⟩
  | .local _ .vmem, ⟨0, _⟩ => ⟨S1x512x1024, .f32⟩
  | .local _ .vmem, ⟨1, _⟩ => ⟨S1x512x1024, .f32⟩
  | .local _ .vmem, ⟨2, _⟩ => ⟨S1x6x1024, .f32⟩
  | .local _ .vmem, ⟨3, _⟩ => ⟨S1x6x1024, .f32⟩
  | .local _ .vmem, ⟨4, _⟩ => ⟨S1x512x512, .f32⟩
  | .local _ .vmem, ⟨5, _⟩ => ⟨S1x512x512, .f32⟩
  | .local _ .vmem, ⟨6, _⟩ => ⟨S1x512x512, .f32⟩
  | .local _ .vmem, ⟨7, _⟩ => ⟨S1x512x512, .f32⟩
  | .local _ .vmem, ⟨8, _⟩ => ⟨S1024x1024, .bf16⟩
  | .local _ .vmem, ⟨9, _⟩ => ⟨S1x1024, .f32⟩
  | .local _ .vmem, ⟨10, _⟩ => ⟨S11x1024x256, .bf16⟩
  | .local _ .vmem, ⟨11, _⟩ => ⟨S11x1024x256, .bf16⟩
  | .local _ .vmem, ⟨12, _⟩ => ⟨S11x3x256, .f32⟩
  | .local _ .vmem, ⟨13, _⟩ => ⟨S11x3x256, .f32⟩
  | .local _ .vmem, ⟨14, _⟩ => ⟨S11x1x256, .f32⟩
  | .local _ .vmem, ⟨15, _⟩ => ⟨S11x1x256, .f32⟩
  | .local _ .vmem, ⟨16, _⟩ => ⟨S2816x1024, .bf16⟩
  | .local _ .vmem, ⟨17, _⟩ => ⟨S1x2x11x8x256, .f32⟩
  | .local _ .vmem, ⟨18, _⟩ => ⟨S1x2x11x8x256, .f32⟩
  | .local _ .vmem, ⟨19, _⟩ => ⟨S1x512x1024, .f32⟩
  | .local _ .vmem, ⟨20, _⟩ => ⟨S1x512x1024, .f32⟩
  | .local _ .vmem, ⟨21, _⟩ => ⟨S1x2x11x8x256, .f32⟩
  | .local _ .vmem, ⟨22, _⟩ => ⟨S1x2x11x8x256, .f32⟩
  | .local _ .vmem, ⟨23, _⟩ => ⟨S2x11x8x256, .f32⟩
  | .local _ .vmem, ⟨24, _⟩ => ⟨S512x2816, .bf16⟩
  | _, _ => ⟨S16x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_cst : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27_0 : Ref sig .tc := ⟨.hbm, 39, rfl⟩
abbrev main_v27_1 : Ref sig .tc := ⟨.hbm, 40, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg13_0 : Ref sig .tc := ⟨.vmem, 17, rfl⟩
abbrev cc0_stg13_1 : Ref sig .tc := ⟨.vmem, 18, rfl⟩
abbrev cc0_stg14_0 : Ref sig .tc := ⟨.vmem, 19, rfl⟩
abbrev cc0_stg14_1 : Ref sig .tc := ⟨.vmem, 20, rfl⟩
abbrev cc0_stg15_0 : Ref sig .tc := ⟨.vmem, 21, rfl⟩
abbrev cc0_stg15_1 : Ref sig .tc := ⟨.vmem, 22, rfl⟩
abbrev cc0_scratch0 : Ref sig .tc := ⟨.vmem, 23, rfl⟩
abbrev cc0_scratch1 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem13_0 : DmaSem sig := 17
abbrev cc0_sem13_1 : DmaSem sig := 18
abbrev cc0_sem14_0 : DmaSem sig := 19
abbrev cc0_sem14_1 : DmaSem sig := 20
abbrev cc0_sem15_0 : DmaSem sig := 21
abbrev cc0_sem15_1 : DmaSem sig := 22

abbrev nD : Nat := 1
abbrev τ : Topo := Topo.v7x

variable {F : FTy → Type} [FloatOps F]

abbrev grid0 : Pipeline.Grid := ⟨2, ![16, 8], ![false, false]⟩

def k0_cond2 (i : grid0.Coords) : BitVec 1 :=
  let arg1 : BitVec 32 := BitVec.ofNat 32 (i 1).val
  let c7_i32 : BitVec 32 := 7#32
  let v1235 : BitVec 1 := Scalar.cmpi .eq arg1 c7_i32
  let v1236 : BitVec 32 := Scalar.extui v1235
  let c0_i32_515 : BitVec 32 := 0#32
  let v1237 : BitVec 1 := Scalar.cmpi .ne v1236 c0_i32_515
  v1237

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![arg0.toNat, c0_i32.toNat, c0_i32_0.toNat, c0_i32_1.toNat, c0_i32_2.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_15 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![arg0.toNat, c0_i32.toNat, c0_i32_0.toNat, c0_i32_1.toNat, c0_i32_2.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x6x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S11x1024x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S11x1024x256 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S11x3x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S11x3x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S11x1x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S11x1x256 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S2816x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 2 → Memref sig .tc .vmem S1x2x11x8x256 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, false]

abbrev stage0_14 : Fin 2 → Memref sig .tc .vmem S1x512x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x2x11x8x256 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, false]
-- ==== ReferenceIdeal.lean ====
abbrev S16x4096x1024 : Shape := ⟨3, ![16, 4096, 1024]⟩
abbrev S16x6x1024 : Shape := ⟨3, ![16, 6, 1024]⟩
abbrev S16x4096x512 : Shape := ⟨3, ![16, 4096, 512]⟩
abbrev S1024x1024 : Shape := ⟨2, ![1024, 1024]⟩
abbrev S1024 : Shape := ⟨1, ![1024]⟩
abbrev S1024x5632 : Shape := ⟨2, ![1024, 5632]⟩
abbrev S3x5632 : Shape := ⟨2, ![3, 5632]⟩
abbrev S5632 : Shape := ⟨1, ![5632]⟩
abbrev S2816x1024 : Shape := ⟨2, ![2816, 1024]⟩
abbrev S16x2x5632 : Shape := ⟨3, ![16, 2, 5632]⟩
abbrev S16x1x1024 : Shape := ⟨3, ![16, 1, 1024]⟩
abbrev S_ : Shape := ⟨0, ![]⟩
abbrev S16x4096 : Shape := ⟨2, ![16, 4096]⟩
abbrev S16x4096x1 : Shape := ⟨3, ![16, 4096, 1]⟩
abbrev S1x1x1024 : Shape := ⟨3, ![1, 1, 1024]⟩
abbrev S16x4096x5632 : Shape := ⟨3, ![16, 4096, 5632]⟩
abbrev S16x4098x5632 : Shape := ⟨3, ![16, 4098, 5632]⟩
abbrev S1x5632 : Shape := ⟨2, ![1, 5632]⟩
abbrev S1x1x5632 : Shape := ⟨3, ![1, 1, 5632]⟩
abbrev S16x4096x2816 : Shape := ⟨3, ![16, 4096, 2816]⟩
abbrev S16x8x5632 : Shape := ⟨3, ![16, 8, 5632]⟩
abbrev S16x8x2x11x256 : Shape := ⟨5, ![16, 8, 2, 11, 256]⟩
abbrev S16x2x11x8x256 : Shape := ⟨5, ![16, 2, 11, 8, 256]⟩

abbrev nBuf : Space → Nat
  | .hbm => 87
  | .vmem => 0
  | .smem => 0
  | _ => 0

abbrev bufTy : (tb : Table) → Fin (tcTables nBuf tb) → BufTy
  | .hbm, ⟨0, _⟩ => ⟨S16x4096x1024, .f32⟩
  | .hbm, ⟨1, _⟩ => ⟨S16x6x1024, .f32⟩
  | .hbm, ⟨2, _⟩ => ⟨S16x4096x512, .f32⟩
  | .hbm, ⟨3, _⟩ => ⟨S16x4096x512, .f32⟩
  | .hbm, ⟨4, _⟩ => ⟨S1024x1024, .f32⟩
  | .hbm, ⟨5, _⟩ => ⟨S1024, .f32⟩
  | .hbm, ⟨6, _⟩ => ⟨S1024x5632, .f32⟩
  | .hbm, ⟨7, _⟩ => ⟨S3x5632, .f32⟩
  | .hbm, ⟨8, _⟩ => ⟨S5632, .f32⟩
  | .hbm, ⟨9, _⟩ => ⟨S2816x1024, .f32⟩
  | .hbm, ⟨10, _⟩ => ⟨S16x2x5632, .f32⟩
  | .hbm, ⟨11, _⟩ => ⟨S16x1x1024, .f32⟩
  | .hbm, ⟨12, _⟩ => ⟨S16x1x1024, .f32⟩
  | .hbm, ⟨13, _⟩ => ⟨S16x1x1024, .f32⟩
  | .hbm, ⟨14, _⟩ => ⟨S16x1x1024, .f32⟩
  | .hbm, ⟨15, _⟩ => ⟨S16x4096x1024, .f32⟩
  | .hbm, ⟨16, _⟩ => ⟨S16x4096x1024, .f32⟩
  | .hbm, ⟨17, _⟩ => ⟨S16x4096x1024, .f32⟩
  | .hbm, ⟨18, _⟩ => ⟨S16x4096x1024, .f32⟩
  | .hbm, ⟨19, _⟩ => ⟨S16x4096x1024, .f32⟩
  | .hbm, ⟨20, _⟩ => ⟨S16x4096x1024, .f32⟩
  | .hbm, ⟨21, _⟩ => ⟨S_, .f32⟩
  | .hbm, ⟨22, _⟩ => ⟨S16x4096, .f32⟩
  | .hbm, ⟨23, _⟩ => ⟨S16x4096x1, .f32⟩
  | .hbm, ⟨24, _⟩ => ⟨S_, .f32⟩
  | .hbm, ⟨25, _⟩ => ⟨S16x4096x1, .f32⟩
  | .hbm, ⟨26, _⟩ => ⟨S16x4096x1, .f32⟩
  | .hbm, ⟨27, _⟩ => ⟨S_, .f32⟩
  | .hbm, ⟨28, _⟩ => ⟨S16x4096x1, .f32⟩
  | .hbm, ⟨29, _⟩ => ⟨S16x4096x1, .f32⟩
  | .hbm, ⟨30, _⟩ => ⟨S16x4096x1, .f32⟩
  | .hbm, ⟨31, _⟩ => ⟨S16x4096x1024, .f32⟩
  | .hbm, ⟨32, _⟩ => ⟨S16x4096x1024, .f32⟩
  | .hbm, ⟨33, _⟩ => ⟨S1x1x1024, .f32⟩
  | .hbm, ⟨34, _⟩ => ⟨S16x4096x1024, .f32⟩
  | .hbm, ⟨35, _⟩ => ⟨S16x4096x1024, .f32⟩
  | .hbm, ⟨36, _⟩ => ⟨S_, .f32⟩
  | .hbm, ⟨37, _⟩ => ⟨S16x1x1024, .f32⟩
  | .hbm, ⟨38, _⟩ => ⟨S16x1x1024, .f32⟩
  | .hbm, ⟨39, _⟩ => ⟨S16x4096x1024, .f32⟩
  | .hbm, ⟨40, _⟩ => ⟨S16x4096x1024, .f32⟩
  | .hbm, ⟨41, _⟩ => ⟨S16x4096x1024, .f32⟩
  | .hbm, ⟨42, _⟩ => ⟨S16x4096x1024, .f32⟩
  | .hbm, ⟨43, _⟩ => ⟨S16x4096x5632, .f32⟩
  | .hbm, ⟨44, _⟩ => ⟨S16x4098x5632, .f32⟩
  | .hbm, ⟨45, _⟩ => ⟨S16x4096x5632, .f32⟩
  | .hbm, ⟨46, _⟩ => ⟨S1x5632, .f32⟩
  | .hbm, ⟨47, _⟩ => ⟨S5632, .f32⟩
  | .hbm, ⟨48, _⟩ => ⟨S1x1x5632, .f32⟩
  | .hbm, ⟨49, _⟩ => ⟨S16x4096x5632, .f32⟩
  | .hbm, ⟨50, _⟩ => ⟨S16x4096x5632, .f32⟩
  | .hbm, ⟨51, _⟩ => ⟨S1x1x5632, .f32⟩
  | .hbm, ⟨52, _⟩ => ⟨S16x4096x5632, .f32⟩
  | .hbm, ⟨53, _⟩ => ⟨S16x4096x5632, .f32⟩
  | .hbm, ⟨54, _⟩ => ⟨S16x4096x5632, .f32⟩
  | .hbm, ⟨55, _⟩ => ⟨S1x5632, .f32⟩
  | .hbm, ⟨56, _⟩ => ⟨S5632, .f32⟩
  | .hbm, ⟨57, _⟩ => ⟨S1x1x5632, .f32⟩
  | .hbm, ⟨58, _⟩ => ⟨S16x4096x5632, .f32⟩
  | .hbm, ⟨59, _⟩ => ⟨S16x4096x5632, .f32⟩
  | .hbm, ⟨60, _⟩ => ⟨S16x4096x5632, .f32⟩
  | .hbm, ⟨61, _⟩ => ⟨S16x4096x5632, .f32⟩
  | .hbm, ⟨62, _⟩ => ⟨S1x5632, .f32⟩
  | .hbm, ⟨63, _⟩ => ⟨S5632, .f32⟩
  | .hbm, ⟨64, _⟩ => ⟨S1x1x5632, .f32⟩
  | .hbm, ⟨65, _⟩ => ⟨S16x4096x5632, .f32⟩
  | .hbm, ⟨66, _⟩ => ⟨S16x4096x5632, .f32⟩
  | .hbm, ⟨67, _⟩ => ⟨S16x4096x5632, .f32⟩
  | .hbm, ⟨68, _⟩ => ⟨S16x4096x2816, .f32⟩
  | .hbm, ⟨69, _⟩ => ⟨S16x4096x2816, .f32⟩
  | .hbm, ⟨70, _⟩ => ⟨S16x8x5632, .f32⟩
  | .hbm, ⟨71, _⟩ => ⟨S16x8x2x11x256, .f32⟩
  | .hbm, ⟨72, _⟩ => ⟨S16x2x11x8x256, .f32⟩
  | .hbm, ⟨73, _⟩ => ⟨S16x4096x2816, .f32⟩
  | .hbm, ⟨74, _⟩ => ⟨S16x4096x2816, .f32⟩
  | .hbm, ⟨75, _⟩ => ⟨S_, .f32⟩
  | .hbm, ⟨76, _⟩ => ⟨S16x4096x2816, .f32⟩
  | .hbm, ⟨77, _⟩ => ⟨S16x4096x2816, .f32⟩
  | .hbm, ⟨78, _⟩ => ⟨S_, .f32⟩
  | .hbm, ⟨79, _⟩ => ⟨S16x4096x2816, .f32⟩
  | .hbm, ⟨80, _⟩ => ⟨S16x4096x2816, .f32⟩
  | .hbm, ⟨81, _⟩ => ⟨S16x4096x2816, .f32⟩
  | .hbm, ⟨82, _⟩ => ⟨S16x4096x2816, .f32⟩
  | .hbm, ⟨83, _⟩ => ⟨S16x4096x1024, .f32⟩
  | .hbm, ⟨84, _⟩ => ⟨S16x4096x1024, .f32⟩
  | .hbm, ⟨85, _⟩ => ⟨S16x4096x1024, .f32⟩
  | .hbm, ⟨86, _⟩ => ⟨S16x4096x1024, .f32⟩
  | _, _ => ⟨S16x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_cst : Ref sig .tc := ⟨.hbm, 21, rfl⟩
abbrev main_v10 : Ref sig .tc := ⟨.hbm, 22, rfl⟩
abbrev main_v11 : Ref sig .tc := ⟨.hbm, 23, rfl⟩
abbrev main_cst_0 : Ref sig .tc := ⟨.hbm, 24, rfl⟩
abbrev main_v12 : Ref sig .tc := ⟨.hbm, 25, rfl⟩
abbrev main_v13 : Ref sig .tc := ⟨.hbm, 26, rfl⟩
abbrev main_cst_1 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_cst_2 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_call0_v0 : Ref sig .tc := ⟨.hbm, 73, rfl⟩
abbrev main_call0_v1 : Ref sig .tc := ⟨.hbm, 74, rfl⟩
abbrev main_call0_cst : Ref sig .tc := ⟨.hbm, 75, rfl⟩
abbrev main_call0_v2 : Ref sig .tc := ⟨.hbm, 76, rfl⟩
abbrev main_call0_v3 : Ref sig .tc := ⟨.hbm, 77, rfl⟩
abbrev main_call0_cst_0 : Ref sig .tc := ⟨.hbm, 78, rfl⟩
abbrev main_call0_v4 : Ref sig .tc := ⟨.hbm, 79, rfl⟩
abbrev main_call0_v5 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩

abbrev nD : Nat := 1
abbrev τ : Topo := Topo.v7x

variable {F : FTy → Type} [FloatOps F]
-- ==== Kernel2.lean ====
abbrev S16x4096x1024 : Shape := ⟨3, ![16, 4096, 1024]⟩
abbrev S16x6x1024 : Shape := ⟨3, ![16, 6, 1024]⟩
abbrev S16x4096x512 : Shape := ⟨3, ![16, 4096, 512]⟩
abbrev S512 : Shape := ⟨1, ![512]⟩
abbrev S512x512 : Shape := ⟨2, ![512, 512]⟩
abbrev S1024x1024 : Shape := ⟨2, ![1024, 1024]⟩
abbrev S1024 : Shape := ⟨1, ![1024]⟩
abbrev S1024x5632 : Shape := ⟨2, ![1024, 5632]⟩
abbrev S3x5632 : Shape := ⟨2, ![3, 5632]⟩
abbrev S5632 : Shape := ⟨1, ![5632]⟩
abbrev S2816x1024 : Shape := ⟨2, ![2816, 1024]⟩
abbrev S16x2x5632 : Shape := ⟨3, ![16, 2, 5632]⟩
abbrev S1024x2x11x256 : Shape := ⟨4, ![1024, 2, 11, 256]⟩
abbrev S2x11x1024x256 : Shape := ⟨4, ![2, 11, 1024, 256]⟩
abbrev S3x2x11x256 : Shape := ⟨4, ![3, 2, 11, 256]⟩
abbrev S2x11x3x256 : Shape := ⟨4, ![2, 11, 3, 256]⟩
abbrev S1x5632 : Shape := ⟨2, ![1, 5632]⟩
abbrev S1x2x11x256 : Shape := ⟨4, ![1, 2, 11, 256]⟩
abbrev S2x11x1x256 : Shape := ⟨4, ![2, 11, 1, 256]⟩
abbrev S_ : Shape := ⟨0, ![]⟩
abbrev S16x6x5632 : Shape := ⟨3, ![16, 6, 5632]⟩
abbrev S16x8x5632 : Shape := ⟨3, ![16, 8, 5632]⟩
abbrev S16x8x2x11x256 : Shape := ⟨5, ![16, 8, 2, 11, 256]⟩
abbrev S16x2x11x8x256 : Shape := ⟨5, ![16, 2, 11, 8, 256]⟩
abbrev S1x1024 : Shape := ⟨2, ![1, 1024]⟩
abbrev S1x512 : Shape := ⟨2, ![1, 512]⟩
abbrev S1x11x1024x256 : Shape := ⟨4, ![1, 11, 1024, 256]⟩
abbrev S11x1024x256 : Shape := ⟨3, ![11, 1024, 256]⟩
abbrev S1x11x3x256 : Shape := ⟨4, ![1, 11, 3, 256]⟩
abbrev S11x3x256 : Shape := ⟨3, ![11, 3, 256]⟩
abbrev S1x11x1x256 : Shape := ⟨4, ![1, 11, 1, 256]⟩
abbrev S11x1x256 : Shape := ⟨3, ![11, 1, 256]⟩
abbrev S1x512x1024 : Shape := ⟨3, ![1, 512, 1024]⟩
abbrev S1x6x1024 : Shape := ⟨3, ![1, 6, 1024]⟩
abbrev S1x512x512 : Shape := ⟨3, ![1, 512, 512]⟩
abbrev S1x2x11x8x256 : Shape := ⟨5, ![1, 2, 11, 8, 256]⟩
abbrev S2x11x8x256 : Shape := ⟨4, ![2, 11, 8, 256]⟩
abbrev S512x2816 : Shape := ⟨2, ![512, 2816]⟩
abbrev S6x1024 : Shape := ⟨2, ![6, 1024]⟩
abbrev S512x1024 : Shape := ⟨2, ![512, 1024]⟩
abbrev S512x1 : Shape := ⟨2, ![512, 1]⟩
abbrev S1x1024x256 : Shape := ⟨3, ![1, 1024, 256]⟩
abbrev S1024x256 : Shape := ⟨2, ![1024, 256]⟩
abbrev S512x256 : Shape := ⟨2, ![512, 256]⟩
abbrev S1x1x8x256 : Shape := ⟨4, ![1, 1, 8, 256]⟩
abbrev S8x256 : Shape := ⟨2, ![8, 256]⟩
abbrev S1x3x256 : Shape := ⟨3, ![1, 3, 256]⟩
abbrev S3x256 : Shape := ⟨2, ![3, 256]⟩
abbrev S1x1x256 : Shape := ⟨3, ![1, 1, 256]⟩
abbrev S1x256 : Shape := ⟨2, ![1, 256]⟩
abbrev S16x256 : Shape := ⟨2, ![16, 256]⟩
abbrev S504x256 : Shape := ⟨2, ![504, 256]⟩

abbrev nBuf : Space → Nat
  | .hbm => 48
  | .vmem => 30
  | .smem => 0
  | _ => 0

abbrev bufTy : (tb : Table) → Fin (tcTables nBuf tb) → BufTy
  | .hbm, ⟨0, _⟩ => ⟨S16x4096x1024, .f32⟩
  | .hbm, ⟨1, _⟩ => ⟨S16x6x1024, .f32⟩
  | .hbm, ⟨2, _⟩ => ⟨S16x4096x512, .f32⟩
  | .hbm, ⟨3, _⟩ => ⟨S16x4096x512, .f32⟩
  | .hbm, ⟨4, _⟩ => ⟨S16x4096x512, .f32⟩
  | .hbm, ⟨5, _⟩ => ⟨S512, .f32⟩
  | .hbm, ⟨6, _⟩ => ⟨S512x512, .f32⟩
  | .hbm, ⟨7, _⟩ => ⟨S512, .f32⟩
  | .hbm, ⟨8, _⟩ => ⟨S1024x1024, .f32⟩
  | .hbm, ⟨9, _⟩ => ⟨S1024, .f32⟩
  | .hbm, ⟨10, _⟩ => ⟨S1024x5632, .f32⟩
  | .hbm, ⟨11, _⟩ => ⟨S3x5632, .f32⟩
  | .hbm, ⟨12, _⟩ => ⟨S5632, .f32⟩
  | .hbm, ⟨13, _⟩ => ⟨S2816x1024, .f32⟩
  | .hbm, ⟨14, _⟩ => ⟨S16x2x5632, .f32⟩
  | .hbm, ⟨15, _⟩ => ⟨S1024x5632, .bf16⟩
  | .hbm, ⟨16, _⟩ => ⟨S1024x2x11x256, .bf16⟩
  | .hbm, ⟨17, _⟩ => ⟨S2x11x1024x256, .bf16⟩
  | .hbm, ⟨18, _⟩ => ⟨S3x2x11x256, .f32⟩
  | .hbm, ⟨19, _⟩ => ⟨S2x11x3x256, .f32⟩
  | .hbm, ⟨20, _⟩ => ⟨S1x5632, .f32⟩
  | .hbm, ⟨21, _⟩ => ⟨S1x2x11x256, .f32⟩
  | .hbm, ⟨22, _⟩ => ⟨S2x11x1x256, .f32⟩
  | .hbm, ⟨23, _⟩ => ⟨S2816x1024, .bf16⟩
  | .hbm, ⟨24, _⟩ => ⟨S_, .f32⟩
  | .hbm, ⟨25, _⟩ => ⟨S16x6x5632, .f32⟩
  | .hbm, ⟨26, _⟩ => ⟨S16x8x5632, .f32⟩
  | .hbm, ⟨27, _⟩ => ⟨S16x8x2x11x256, .f32⟩
  | .hbm, ⟨28, _⟩ => ⟨S16x2x11x8x256, .f32⟩
  | .hbm, ⟨29, _⟩ => ⟨S1024x1024, .bf16⟩
  | .hbm, ⟨30, _⟩ => ⟨S1x1024, .f32⟩
  | .hbm, ⟨31, _⟩ => ⟨S1x512, .f32⟩
  | .hbm, ⟨32, _⟩ => ⟨S512x512, .bf16⟩
  | .hbm, ⟨33, _⟩ => ⟨S1x512, .f32⟩
  | .hbm, ⟨34, _⟩ => ⟨S1x11x1024x256, .bf16⟩
  | .hbm, ⟨35, _⟩ => ⟨S11x1024x256, .bf16⟩
  | .hbm, ⟨36, _⟩ => ⟨S1x11x1024x256, .bf16⟩
  | .hbm, ⟨37, _⟩ => ⟨S11x1024x256, .bf16⟩
  | .hbm, ⟨38, _⟩ => ⟨S1x11x3x256, .f32⟩
  | .hbm, ⟨39, _⟩ => ⟨S11x3x256, .f32⟩
  | .hbm, ⟨40, _⟩ => ⟨S1x11x3x256, .f32⟩
  | .hbm, ⟨41, _⟩ => ⟨S11x3x256, .f32⟩
  | .hbm, ⟨42, _⟩ => ⟨S1x11x1x256, .f32⟩
  | .hbm, ⟨43, _⟩ => ⟨S11x1x256, .f32⟩
  | .hbm, ⟨44, _⟩ => ⟨S1x11x1x256, .f32⟩
  | .hbm, ⟨45, _⟩ => ⟨S11x1x256, .f32⟩
  | .hbm, ⟨46, _⟩ => ⟨S16x4096x1024, .f32⟩
  | .hbm, ⟨47, _⟩ => ⟨S16x2x11x8x256, .f32⟩
  | .local _ .vmem, ⟨0, _⟩ => ⟨S1x512x1024, .f32⟩
  | .local _ .vmem, ⟨1, _⟩ => ⟨S1x512x1024, .f32⟩
  | .local _ .vmem, ⟨2, _⟩ => ⟨S1x6x1024, .f32⟩
  | .local _ .vmem, ⟨3, _⟩ => ⟨S1x6x1024, .f32⟩
  | .local _ .vmem, ⟨4, _⟩ => ⟨S1x512x512, .f32⟩
  | .local _ .vmem, ⟨5, _⟩ => ⟨S1x512x512, .f32⟩
  | .local _ .vmem, ⟨6, _⟩ => ⟨S1x512x512, .f32⟩
  | .local _ .vmem, ⟨7, _⟩ => ⟨S1x512x512, .f32⟩
  | .local _ .vmem, ⟨8, _⟩ => ⟨S1x512x512, .f32⟩
  | .local _ .vmem, ⟨9, _⟩ => ⟨S1x512x512, .f32⟩
  | .local _ .vmem, ⟨10, _⟩ => ⟨S1x512, .f32⟩
  | .local _ .vmem, ⟨11, _⟩ => ⟨S512x512, .bf16⟩
  | .local _ .vmem, ⟨12, _⟩ => ⟨S1x512, .f32⟩
  | .local _ .vmem, ⟨13, _⟩ => ⟨S1024x1024, .bf16⟩
  | .local _ .vmem, ⟨14, _⟩ => ⟨S1x1024, .f32⟩
  | .local _ .vmem, ⟨15, _⟩ => ⟨S11x1024x256, .bf16⟩
  | .local _ .vmem, ⟨16, _⟩ => ⟨S11x1024x256, .bf16⟩
  | .local _ .vmem, ⟨17, _⟩ => ⟨S11x3x256, .f32⟩
  | .local _ .vmem, ⟨18, _⟩ => ⟨S11x3x256, .f32⟩
  | .local _ .vmem, ⟨19, _⟩ => ⟨S11x1x256, .f32⟩
  | .local _ .vmem, ⟨20, _⟩ => ⟨S11x1x256, .f32⟩
  | .local _ .vmem, ⟨21, _⟩ => ⟨S2816x1024, .bf16⟩
  | .local _ .vmem, ⟨22, _⟩ => ⟨S1x2x11x8x256, .f32⟩
  | .local _ .vmem, ⟨23, _⟩ => ⟨S1x2x11x8x256, .f32⟩
  | .local _ .vmem, ⟨24, _⟩ => ⟨S1x512x1024, .f32⟩
  | .local _ .vmem, ⟨25, _⟩ => ⟨S1x512x1024, .f32⟩
  | .local _ .vmem, ⟨26, _⟩ => ⟨S1x2x11x8x256, .f32⟩
  | .local _ .vmem, ⟨27, _⟩ => ⟨S1x2x11x8x256, .f32⟩
  | .local _ .vmem, ⟨28, _⟩ => ⟨S2x11x8x256, .f32⟩
  | .local _ .vmem, ⟨29, _⟩ => ⟨S512x2816, .bf16⟩
  | _, _ => ⟨S16x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_cst : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30_0 : Ref sig .tc := ⟨.hbm, 46, rfl⟩
abbrev main_v30_1 : Ref sig .tc := ⟨.hbm, 47, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg13_0 : Ref sig .tc := ⟨.vmem, 18, rfl⟩
abbrev cc0_stg14_0 : Ref sig .tc := ⟨.vmem, 19, rfl⟩
abbrev cc0_stg15_0 : Ref sig .tc := ⟨.vmem, 20, rfl⟩
abbrev cc0_stg16_0 : Ref sig .tc := ⟨.vmem, 21, rfl⟩
abbrev cc0_stg17_0 : Ref sig .tc := ⟨.vmem, 22, rfl⟩
abbrev cc0_stg17_1 : Ref sig .tc := ⟨.vmem, 23, rfl⟩
abbrev cc0_stg18_0 : Ref sig .tc := ⟨.vmem, 24, rfl⟩
abbrev cc0_stg18_1 : Ref sig .tc := ⟨.vmem, 25, rfl⟩
abbrev cc0_stg19_0 : Ref sig .tc := ⟨.vmem, 26, rfl⟩
abbrev cc0_stg19_1 : Ref sig .tc := ⟨.vmem, 27, rfl⟩
abbrev cc0_scratch0 : Ref sig .tc := ⟨.vmem, 28, rfl⟩
abbrev cc0_scratch1 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem12_0 : DmaSem sig := 17
abbrev cc0_sem13_0 : DmaSem sig := 18
abbrev cc0_sem14_0 : DmaSem sig := 19
abbrev cc0_sem15_0 : DmaSem sig := 20
abbrev cc0_sem16_0 : DmaSem sig := 21
abbrev cc0_sem17_0 : DmaSem sig := 22
abbrev cc0_sem17_1 : DmaSem sig := 23
abbrev cc0_sem18_0 : DmaSem sig := 24
abbrev cc0_sem18_1 : DmaSem sig := 25
abbrev cc0_sem19_0 : DmaSem sig := 26
abbrev cc0_sem19_1 : DmaSem sig := 27

abbrev nD : Nat := 1
abbrev τ : Topo := Topo.v7x

variable {F : FTy → Type} [FloatOps F]

abbrev grid0 : Pipeline.Grid := ⟨2, ![16, 8], ![false, false]⟩

def k0_cond2 (i : grid0.Coords) : BitVec 1 :=
  let arg1 : BitVec 32 := BitVec.ofNat 32 (i 1).val
  let c7_i32 : BitVec 32 := 7#32
  let v1265 : BitVec 1 := Scalar.cmpi .eq arg1 c7_i32
  let v1266 : BitVec 32 := Scalar.extui v1265
  let c0_i32_529 : BitVec 32 := 0#32
  let v1267 : BitVec 1 := Scalar.cmpi .ne v1266 c0_i32_529
  v1267

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_16 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![arg0.toNat, c0_i32.toNat, c0_i32_0.toNat, c0_i32_1.toNat, c0_i32_2.toNat]

def cc0_transform_18 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_19 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![arg0.toNat, c0_i32.toNat, c0_i32_0.toNat, c0_i32_1.toNat, c0_i32_2.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x6x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S512x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S11x1024x256 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S11x1024x256 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S11x3x256 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S11x3x256 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S11x1x256 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 1 → Memref sig .tc .vmem S11x1x256 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false, false]

abbrev stage0_16 : Fin 1 → Memref sig .tc .vmem S2816x1024 .bf16 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false, false]

abbrev stage0_17 : Fin 2 → Memref sig .tc .vmem S1x2x11x8x256 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, false]

abbrev stage0_18 : Fin 2 → Memref sig .tc .vmem S1x512x1024 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true]

abbrev stage0_19 : Fin 2 → Memref sig .tc .vmem S1x2x11x8x256 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true, false]
-- ==== Reference2Ideal.lean ====
abbrev S16x4096x1024 : Shape := ⟨3, ![16, 4096, 1024]⟩
abbrev S16x6x1024 : Shape := ⟨3, ![16, 6, 1024]⟩
abbrev S16x4096x512 : Shape := ⟨3, ![16, 4096, 512]⟩
abbrev S512 : Shape := ⟨1, ![512]⟩
abbrev S512x512 : Shape := ⟨2, ![512, 512]⟩
abbrev S1024x1024 : Shape := ⟨2, ![1024, 1024]⟩
abbrev S1024 : Shape := ⟨1, ![1024]⟩
abbrev S1024x5632 : Shape := ⟨2, ![1024, 5632]⟩
abbrev S3x5632 : Shape := ⟨2, ![3, 5632]⟩
abbrev S5632 : Shape := ⟨1, ![5632]⟩
abbrev S2816x1024 : Shape := ⟨2, ![2816, 1024]⟩
abbrev S16x2x5632 : Shape := ⟨3, ![16, 2, 5632]⟩
abbrev S1x1x512 : Shape := ⟨3, ![1, 1, 512]⟩
abbrev S_ : Shape := ⟨0, ![]⟩
abbrev S16x1x1024 : Shape := ⟨3, ![16, 1, 1024]⟩
abbrev S16x4096 : Shape := ⟨2, ![16, 4096]⟩
abbrev S16x4096x1 : Shape := ⟨3, ![16, 4096, 1]⟩
abbrev S1x1x1024 : Shape := ⟨3, ![1, 1, 1024]⟩
abbrev S16x4096x5632 : Shape := ⟨3, ![16, 4096, 5632]⟩
abbrev S16x4098x5632 : Shape := ⟨3, ![16, 4098, 5632]⟩
abbrev S1x5632 : Shape := ⟨2, ![1, 5632]⟩
abbrev S1x1x5632 : Shape := ⟨3, ![1, 1, 5632]⟩
abbrev S16x4096x2816 : Shape := ⟨3, ![16, 4096, 2816]⟩
abbrev S16x8x5632 : Shape := ⟨3, ![16, 8, 5632]⟩
abbrev S16x8x2x11x256 : Shape := ⟨5, ![16, 8, 2, 11, 256]⟩
abbrev S16x2x11x8x256 : Shape := ⟨5, ![16, 2, 11, 8, 256]⟩

abbrev nBuf : Space → Nat
  | .hbm => 125
  | .vmem => 0
  | .smem => 0
  | _ => 0

abbrev bufTy : (tb : Table) → Fin (tcTables nBuf tb) → BufTy
  | .hbm, ⟨0, _⟩ => ⟨S16x4096x1024, .f32⟩
  | .hbm, ⟨1, _⟩ => ⟨S16x6x1024, .f32⟩
  | .hbm, ⟨2, _⟩ => ⟨S16x4096x512, .f32⟩
  | .hbm, ⟨3, _⟩ => ⟨S16x4096x512, .f32⟩
  | .hbm, ⟨4, _⟩ => ⟨S16x4096x512, .f32⟩
  | .hbm, ⟨5, _⟩ => ⟨S512, .f32⟩
  | .hbm, ⟨6, _⟩ => ⟨S512x512, .f32⟩
  | .hbm, ⟨7, _⟩ => ⟨S512, .f32⟩
  | .hbm, ⟨8, _⟩ => ⟨S1024x1024, .f32⟩
  | .hbm, ⟨9, _⟩ => ⟨S1024, .f32⟩
  | .hbm, ⟨10, _⟩ => ⟨S1024x5632, .f32⟩
  | .hbm, ⟨11, _⟩ => ⟨S3x5632, .f32⟩
  | .hbm, ⟨12, _⟩ => ⟨S5632, .f32⟩
  | .hbm, ⟨13, _⟩ => ⟨S2816x1024, .f32⟩
  | .hbm, ⟨14, _⟩ => ⟨S16x2x5632, .f32⟩
  | .hbm, ⟨15, _⟩ => ⟨S1x1x512, .f32⟩
  | .hbm, ⟨16, _⟩ => ⟨S16x4096x512, .f32⟩
  | .hbm, ⟨17, _⟩ => ⟨S16x4096x512, .f32⟩
  | .hbm, ⟨18, _⟩ => ⟨S16x4096x512, .f32⟩
  | .hbm, ⟨19, _⟩ => ⟨S16x4096x512, .f32⟩
  | .hbm, ⟨20, _⟩ => ⟨S16x4096x512, .f32⟩
  | .hbm, ⟨21, _⟩ => ⟨S_, .f32⟩
  | .hbm, ⟨22, _⟩ => ⟨S16x4096x512, .f32⟩
  | .hbm, ⟨23, _⟩ => ⟨S16x4096x512, .f32⟩
  | .hbm, ⟨24, _⟩ => ⟨S16x4096x512, .f32⟩
  | .hbm, ⟨25, _⟩ => ⟨S_, .f32⟩
  | .hbm, ⟨26, _⟩ => ⟨S16x4096x512, .f32⟩
  | .hbm, ⟨27, _⟩ => ⟨S16x4096x512, .f32⟩
  | .hbm, ⟨28, _⟩ => ⟨S16x4096x512, .f32⟩
  | .hbm, ⟨29, _⟩ => ⟨S_, .f32⟩
  | .hbm, ⟨30, _⟩ => ⟨S16x4096x512, .f32⟩
  | .hbm, ⟨31, _⟩ => ⟨S16x4096x512, .f32⟩
  | .hbm, ⟨32, _⟩ => ⟨S_, .f32⟩
  | .hbm, ⟨33, _⟩ => ⟨S16x4096x512, .f32⟩
  | .hbm, ⟨34, _⟩ => ⟨S16x4096x512, .f32⟩
  | .hbm, ⟨35, _⟩ => ⟨S16x4096x512, .f32⟩
  | .hbm, ⟨36, _⟩ => ⟨S16x4096x512, .f32⟩
  | .hbm, ⟨37, _⟩ => ⟨S1x1x512, .f32⟩
  | .hbm, ⟨38, _⟩ => ⟨S16x4096x512, .f32⟩
  | .hbm, ⟨39, _⟩ => ⟨S16x4096x512, .f32⟩
  | .hbm, ⟨40, _⟩ => ⟨S16x4096x512, .f32⟩
  | .hbm, ⟨41, _⟩ => ⟨S16x4096x512, .f32⟩
  | .hbm, ⟨42, _⟩ => ⟨S_, .f32⟩
  | .hbm, ⟨43, _⟩ => ⟨S16x4096x512, .f32⟩
  | .hbm, ⟨44, _⟩ => ⟨S16x4096x512, .f32⟩
  | .hbm, ⟨45, _⟩ => ⟨S_, .f32⟩
  | .hbm, ⟨46, _⟩ => ⟨S16x4096x512, .f32⟩
  | .hbm, ⟨47, _⟩ => ⟨S16x4096x512, .f32⟩
  | .hbm, ⟨48, _⟩ => ⟨S16x4096x512, .f32⟩
  | .hbm, ⟨49, _⟩ => ⟨S16x1x1024, .f32⟩
  | .hbm, ⟨50, _⟩ => ⟨S16x1x1024, .f32⟩
  | .hbm, ⟨51, _⟩ => ⟨S16x1x1024, .f32⟩
  | .hbm, ⟨52, _⟩ => ⟨S16x1x1024, .f32⟩
  | .hbm, ⟨53, _⟩ => ⟨S16x4096x1024, .f32⟩
  | .hbm, ⟨54, _⟩ => ⟨S16x4096x1024, .f32⟩
  | .hbm, ⟨55, _⟩ => ⟨S16x4096x1024, .f32⟩
  | .hbm, ⟨56, _⟩ => ⟨S16x4096x1024, .f32⟩
  | .hbm, ⟨57, _⟩ => ⟨S16x4096x1024, .f32⟩
  | .hbm, ⟨58, _⟩ => ⟨S16x4096x1024, .f32⟩
  | .hbm, ⟨59, _⟩ => ⟨S_, .f32⟩
  | .hbm, ⟨60, _⟩ => ⟨S16x4096, .f32⟩
  | .hbm, ⟨61, _⟩ => ⟨S16x4096x1, .f32⟩
  | .hbm, ⟨62, _⟩ => ⟨S_, .f32⟩
  | .hbm, ⟨63, _⟩ => ⟨S16x4096x1, .f32⟩
  | .hbm, ⟨64, _⟩ => ⟨S16x4096x1, .f32⟩
  | .hbm, ⟨65, _⟩ => ⟨S_, .f32⟩
  | .hbm, ⟨66, _⟩ => ⟨S16x4096x1, .f32⟩
  | .hbm, ⟨67, _⟩ => ⟨S16x4096x1, .f32⟩
  | .hbm, ⟨68, _⟩ => ⟨S16x4096x1, .f32⟩
  | .hbm, ⟨69, _⟩ => ⟨S16x4096x1024, .f32⟩
  | .hbm, ⟨70, _⟩ => ⟨S16x4096x1024, .f32⟩
  | .hbm, ⟨71, _⟩ => ⟨S1x1x1024, .f32⟩
  | .hbm, ⟨72, _⟩ => ⟨S16x4096x1024, .f32⟩
  | .hbm, ⟨73, _⟩ => ⟨S16x4096x1024, .f32⟩
  | .hbm, ⟨74, _⟩ => ⟨S_, .f32⟩
  | .hbm, ⟨75, _⟩ => ⟨S16x1x1024, .f32⟩
  | .hbm, ⟨76, _⟩ => ⟨S16x1x1024, .f32⟩
  | .hbm, ⟨77, _⟩ => ⟨S16x4096x1024, .f32⟩
  | .hbm, ⟨78, _⟩ => ⟨S16x4096x1024, .f32⟩
  | .hbm, ⟨79, _⟩ => ⟨S16x4096x1024, .f32⟩
  | .hbm, ⟨80, _⟩ => ⟨S16x4096x1024, .f32⟩
  | .hbm, ⟨81, _⟩ => ⟨S16x4096x5632, .f32⟩
  | .hbm, ⟨82, _⟩ => ⟨S16x4098x5632, .f32⟩
  | .hbm, ⟨83, _⟩ => ⟨S16x4096x5632, .f32⟩
  | .hbm, ⟨84, _⟩ => ⟨S1x5632, .f32⟩
  | .hbm, ⟨85, _⟩ => ⟨S5632, .f32⟩
  | .hbm, ⟨86, _⟩ => ⟨S1x1x5632, .f32⟩
  | .hbm, ⟨87, _⟩ => ⟨S16x4096x5632, .f32⟩
  | .hbm, ⟨88, _⟩ => ⟨S16x4096x5632, .f32⟩
  | .hbm, ⟨89, _⟩ => ⟨S1x1x5632, .f32⟩
  | .hbm, ⟨90, _⟩ => ⟨S16x4096x5632, .f32⟩
  | .hbm, ⟨91, _⟩ => ⟨S16x4096x5632, .f32⟩
  | .hbm, ⟨92, _⟩ => ⟨S16x4096x5632, .f32⟩
  | .hbm, ⟨93, _⟩ => ⟨S1x5632, .f32⟩
  | .hbm, ⟨94, _⟩ => ⟨S5632, .f32⟩
  | .hbm, ⟨95, _⟩ => ⟨S1x1x5632, .f32⟩
  | .hbm, ⟨96, _⟩ => ⟨S16x4096x5632, .f32⟩
  | .hbm, ⟨97, _⟩ => ⟨S16x4096x5632, .f32⟩
  | .hbm, ⟨98, _⟩ => ⟨S16x4096x5632, .f32⟩
  | .hbm, ⟨99, _⟩ => ⟨S16x4096x5632, .f32⟩
  | .hbm, ⟨100, _⟩ => ⟨S1x5632, .f32⟩
  | .hbm, ⟨101, _⟩ => ⟨S5632, .f32⟩
  | .hbm, ⟨102, _⟩ => ⟨S1x1x5632, .f32⟩
  | .hbm, ⟨103, _⟩ => ⟨S16x4096x5632, .f32⟩
  | .hbm, ⟨104, _⟩ => ⟨S16x4096x5632, .f32⟩
  | .hbm, ⟨105, _⟩ => ⟨S16x4096x5632, .f32⟩
  | .hbm, ⟨106, _⟩ => ⟨S16x4096x2816, .f32⟩
  | .hbm, ⟨107, _⟩ => ⟨S16x4096x2816, .f32⟩
  | .hbm, ⟨108, _⟩ => ⟨S16x8x5632, .f32⟩
  | .hbm, ⟨109, _⟩ => ⟨S16x8x2x11x256, .f32⟩
  | .hbm, ⟨110, _⟩ => ⟨S16x2x11x8x256, .f32⟩
  | .hbm, ⟨111, _⟩ => ⟨S16x4096x2816, .f32⟩
  | .hbm, ⟨112, _⟩ => ⟨S16x4096x2816, .f32⟩
  | .hbm, ⟨113, _⟩ => ⟨S_, .f32⟩
  | .hbm, ⟨114, _⟩ => ⟨S16x4096x2816, .f32⟩
  | .hbm, ⟨115, _⟩ => ⟨S16x4096x2816, .f32⟩
  | .hbm, ⟨116, _⟩ => ⟨S_, .f32⟩
  | .hbm, ⟨117, _⟩ => ⟨S16x4096x2816, .f32⟩
  | .hbm, ⟨118, _⟩ => ⟨S16x4096x2816, .f32⟩
  | .hbm, ⟨119, _⟩ => ⟨S16x4096x2816, .f32⟩
  | .hbm, ⟨120, _⟩ => ⟨S16x4096x2816, .f32⟩
  | .hbm, ⟨121, _⟩ => ⟨S16x4096x1024, .f32⟩
  | .hbm, ⟨122, _⟩ => ⟨S16x4096x1024, .f32⟩
  | .hbm, ⟨123, _⟩ => ⟨S16x4096x1024, .f32⟩
  | .hbm, ⟨124, _⟩ => ⟨S16x4096x1024, .f32⟩
  | _, _ => ⟨S16x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_cst : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_cst_0 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_cst_1 : Ref sig .tc := ⟨.hbm, 29, rfl⟩
abbrev main_v12 : Ref sig .tc := ⟨.hbm, 30, rfl⟩
abbrev main_v13 : Ref sig .tc := ⟨.hbm, 31, rfl⟩
abbrev main_cst_2 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_cst_3 : Ref sig .tc := ⟨.hbm, 42, rfl⟩
abbrev main_v23 : Ref sig .tc := ⟨.hbm, 43, rfl⟩
abbrev main_v24 : Ref sig .tc := ⟨.hbm, 44, rfl⟩
abbrev main_cst_4 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_cst_5 : Ref sig .tc := ⟨.hbm, 59, rfl⟩
abbrev main_v38 : Ref sig .tc := ⟨.hbm, 60, rfl⟩
abbrev main_v39 : Ref sig .tc := ⟨.hbm, 61, rfl⟩
abbrev main_cst_6 : Ref sig .tc := ⟨.hbm, 62, rfl⟩
abbrev main_v40 : Ref sig .tc := ⟨.hbm, 63, rfl⟩
abbrev main_v41 : Ref sig .tc := ⟨.hbm, 64, rfl⟩
abbrev main_cst_7 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_cst_8 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_v83 : Ref sig .tc := ⟨.hbm, 108, rfl⟩
abbrev main_v84 : Ref sig .tc := ⟨.hbm, 109, rfl⟩
abbrev main_v85 : Ref sig .tc := ⟨.hbm, 110, rfl⟩
abbrev main_call0_v0 : Ref sig .tc := ⟨.hbm, 111, rfl⟩
abbrev main_call0_v1 : Ref sig .tc := ⟨.hbm, 112, rfl⟩
abbrev main_call0_cst : Ref sig .tc := ⟨.hbm, 113, rfl⟩
abbrev main_call0_v2 : Ref sig .tc := ⟨.hbm, 114, rfl⟩
abbrev main_call0_v3 : Ref sig .tc := ⟨.hbm, 115, rfl⟩
abbrev main_call0_cst_0 : Ref sig .tc := ⟨.hbm, 116, rfl⟩
abbrev main_call0_v4 : Ref sig .tc := ⟨.hbm, 117, rfl⟩
abbrev main_call0_v5 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_v89 : Ref sig .tc := ⟨.hbm, 122, rfl⟩
abbrev main_v90 : Ref sig .tc := ⟨.hbm, 123, rfl⟩
abbrev main_v91 : Ref sig .tc := ⟨.hbm, 124, rfl⟩

abbrev nD : Nat := 1
abbrev τ : Topo := Topo.v7x

variable {F : FTy → Type} [FloatOps F]
-- ==== Kernel3.lean ====
abbrev S16x4096x1024 : Shape := ⟨3, ![16, 4096, 1024]⟩
abbrev S16x6x1024 : Shape := ⟨3, ![16, 6, 1024]⟩
abbrev S1024 : Shape := ⟨1, ![1024]⟩
abbrev S1024x2312 : Shape := ⟨2, ![1024, 2312]⟩
abbrev S64 : Shape := ⟨1, ![64]⟩
abbrev S8 : Shape := ⟨1, ![8]⟩
abbrev S_ : Shape := ⟨0, ![]⟩
abbrev S1024x120 : Shape := ⟨2, ![1024, 120]⟩
abbrev S1024x2432 : Shape := ⟨2, ![1024, 2432]⟩
abbrev S1x64 : Shape := ⟨2, ![1, 64]⟩
abbrev S8x64 : Shape := ⟨2, ![8, 64]⟩
abbrev S512 : Shape := ⟨1, ![512]⟩
abbrev S1x512 : Shape := ⟨2, ![1, 512]⟩
abbrev S2x64 : Shape := ⟨2, ![2, 64]⟩
abbrev S128 : Shape := ⟨1, ![128]⟩
abbrev S1x128 : Shape := ⟨2, ![1, 128]⟩
abbrev S120 : Shape := ⟨1, ![120]⟩
abbrev S1x1024 : Shape := ⟨2, ![1, 1024]⟩
abbrev S16x4096x512 : Shape := ⟨3, ![16, 4096, 512]⟩
abbrev S16x4096x128 : Shape := ⟨3, ![16, 4096, 128]⟩
abbrev S16x8x4096 : Shape := ⟨3, ![16, 8, 4096]⟩
abbrev S1x512x1024 : Shape := ⟨3, ![1, 512, 1024]⟩
abbrev S1x6x1024 : Shape := ⟨3, ![1, 6, 1024]⟩
abbrev S1x512x512 : Shape := ⟨3, ![1, 512, 512]⟩
abbrev S1x512x128 : Shape := ⟨3, ![1, 512, 128]⟩
abbrev S1x8x512 : Shape := ⟨3, ![1, 8, 512]⟩
abbrev S6x1024 : Shape := ⟨2, ![6, 1024]⟩
abbrev S512x1024 : Shape := ⟨2, ![512, 1024]⟩
abbrev S512x1 : Shape := ⟨2, ![512, 1]⟩
abbrev S512x512 : Shape := ⟨2, ![512, 512]⟩
abbrev S1024x512 : Shape := ⟨2, ![1024, 512]⟩
abbrev S1024x128 : Shape := ⟨2, ![1024, 128]⟩
abbrev S512x128 : Shape := ⟨2, ![512, 128]⟩
abbrev S128x128 : Shape := ⟨2, ![128, 128]⟩
abbrev S1024x1024 : Shape := ⟨2, ![1024, 1024]⟩
abbrev S128x512 : Shape := ⟨2, ![128, 512]⟩
abbrev S8x512 : Shape := ⟨2, ![8, 512]⟩

abbrev nBuf : Space → Nat
  | .hbm => 31
  | .vmem => 23
  | .smem => 0
  | _ => 0

abbrev bufTy : (tb : Table) → Fin (tcTables nBuf tb) → BufTy
  | .hbm, ⟨0, _⟩ => ⟨S16x4096x1024, .f32⟩
  | .hbm, ⟨1, _⟩ => ⟨S16x6x1024, .f32⟩
  | .hbm, ⟨2, _⟩ => ⟨S1024, .f32⟩
  | .hbm, ⟨3, _⟩ => ⟨S1024x2312, .f32⟩
  | .hbm, ⟨4, _⟩ => ⟨S64, .f32⟩
  | .hbm, ⟨5, _⟩ => ⟨S64, .f32⟩
  | .hbm, ⟨6, _⟩ => ⟨S8, .f32⟩
  | .hbm, ⟨7, _⟩ => ⟨S_, .f32⟩
  | .hbm, ⟨8, _⟩ => ⟨S1024x120, .f32⟩
  | .hbm, ⟨9, _⟩ => ⟨S1024x2432, .f32⟩
  | .hbm, ⟨10, _⟩ => ⟨S1024x2432, .bf16⟩
  | .hbm, ⟨11, _⟩ => ⟨S1x64, .f32⟩
  | .hbm, ⟨12, _⟩ => ⟨S8x64, .f32⟩
  | .hbm, ⟨13, _⟩ => ⟨S512, .f32⟩
  | .hbm, ⟨14, _⟩ => ⟨S1x512, .f32⟩
  | .hbm, ⟨15, _⟩ => ⟨S1x64, .f32⟩
  | .hbm, ⟨16, _⟩ => ⟨S2x64, .f32⟩
  | .hbm, ⟨17, _⟩ => ⟨S128, .f32⟩
  | .hbm, ⟨18, _⟩ => ⟨S1x128, .f32⟩
  | .hbm, ⟨19, _⟩ => ⟨S_, .f32⟩
  | .hbm, ⟨20, _⟩ => ⟨S120, .f32⟩
  | .hbm, ⟨21, _⟩ => ⟨S128, .f32⟩
  | .hbm, ⟨22, _⟩ => ⟨S1x128, .f32⟩
  | .hbm, ⟨23, _⟩ => ⟨S1x1024, .f32⟩
  | .hbm, ⟨24, _⟩ => ⟨S16x4096x512, .f32⟩
  | .hbm, ⟨25, _⟩ => ⟨S16x4096x128, .f32⟩
  | .hbm, ⟨26, _⟩ => ⟨S16x4096x128, .f32⟩
  | .hbm, ⟨27, _⟩ => ⟨S16x4096x512, .f32⟩
  | .hbm, ⟨28, _⟩ => ⟨S16x4096x1024, .f32⟩
  | .hbm, ⟨29, _⟩ => ⟨S16x4096x128, .f32⟩
  | .hbm, ⟨30, _⟩ => ⟨S16x8x4096, .f32⟩
  | .local _ .vmem, ⟨0, _⟩ => ⟨S1x512x1024, .f32⟩
  | .local _ .vmem, ⟨1, _⟩ => ⟨S1x512x1024, .f32⟩
  | .local _ .vmem, ⟨2, _⟩ => ⟨S1x6x1024, .f32⟩
  | .local _ .vmem, ⟨3, _⟩ => ⟨S1x6x1024, .f32⟩
  | .local _ .vmem, ⟨4, _⟩ => ⟨S1x1024, .f32⟩
  | .local _ .vmem, ⟨5, _⟩ => ⟨S1024x2432, .bf16⟩
  | .local _ .vmem, ⟨6, _⟩ => ⟨S1x512, .f32⟩
  | .local _ .vmem, ⟨7, _⟩ => ⟨S1x128, .f32⟩
  | .local _ .vmem, ⟨8, _⟩ => ⟨S1x128, .f32⟩
  | .local _ .vmem, ⟨9, _⟩ => ⟨S1x512x512, .f32⟩
  | .local _ .vmem, ⟨10, _⟩ => ⟨S1x512x512, .f32⟩
  | .local _ .vmem, ⟨11, _⟩ => ⟨S1x512x128, .f32⟩
  | .local _ .vmem, ⟨12, _⟩ => ⟨S1x512x128, .f32⟩
  | .local _ .vmem, ⟨13, _⟩ => ⟨S1x512x128, .f32⟩
  | .local _ .vmem, ⟨14, _⟩ => ⟨S1x512x128, .f32⟩
  | .local _ .vmem, ⟨15, _⟩ => ⟨S1x512x512, .f32⟩
  | .local _ .vmem, ⟨16, _⟩ => ⟨S1x512x512, .f32⟩
  | .local _ .vmem, ⟨17, _⟩ => ⟨S1x512x1024, .f32⟩
  | .local _ .vmem, ⟨18, _⟩ => ⟨S1x512x1024, .f32⟩
  | .local _ .vmem, ⟨19, _⟩ => ⟨S1x512x128, .f32⟩
  | .local _ .vmem, ⟨20, _⟩ => ⟨S1x512x128, .f32⟩
  | .local _ .vmem, ⟨21, _⟩ => ⟨S1x8x512, .f32⟩
  | .local _ .vmem, ⟨22, _⟩ => ⟨S1x8x512, .f32⟩
  | _, _ => ⟨S16x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_0 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15_0 : Ref sig .tc := ⟨.hbm, 24, rfl⟩
abbrev main_v15_1 : Ref sig .tc := ⟨.hbm, 25, rfl⟩
abbrev main_v15_2 : Ref sig .tc := ⟨.hbm, 26, rfl⟩
abbrev main_v15_3 : Ref sig .tc := ⟨.hbm, 27, rfl⟩
abbrev main_v15_4 : Ref sig .tc := ⟨.hbm, 28, rfl⟩
abbrev main_v15_5 : Ref sig .tc := ⟨.hbm, 29, rfl⟩
abbrev main_v15_6 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem13_1 : DmaSem sig := 22

abbrev nD : Nat := 1
abbrev τ : Topo := Topo.v7x

variable {F : FTy → Type} [FloatOps F]

abbrev grid0 : Pipeline.Grid := ⟨2, ![16, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x6x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x2432 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x512x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x512x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x512x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x512x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x8x512 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]
-- ==== Reference3Ideal.lean ====
abbrev S16x4096x1024 : Shape := ⟨3, ![16, 4096, 1024]⟩
abbrev S16x6x1024 : Shape := ⟨3, ![16, 6, 1024]⟩
abbrev S1024 : Shape := ⟨1, ![1024]⟩
abbrev S1024x2312 : Shape := ⟨2, ![1024, 2312]⟩
abbrev S64 : Shape := ⟨1, ![64]⟩
abbrev S8 : Shape := ⟨1, ![8]⟩
abbrev S16x1x1024 : Shape := ⟨3, ![16, 1, 1024]⟩
abbrev S_ : Shape := ⟨0, ![]⟩
abbrev S16x4096 : Shape := ⟨2, ![16, 4096]⟩
abbrev S16x4096x1 : Shape := ⟨3, ![16, 4096, 1]⟩
abbrev S1x1x1024 : Shape := ⟨3, ![1, 1, 1024]⟩
abbrev S16x4096x2312 : Shape := ⟨3, ![16, 4096, 2312]⟩
abbrev S16x4096x512 : Shape := ⟨3, ![16, 4096, 512]⟩
abbrev S16x4096x128 : Shape := ⟨3, ![16, 4096, 128]⟩
abbrev S16x4096x8 : Shape := ⟨3, ![16, 4096, 8]⟩

abbrev nBuf : Space → Nat
  | .hbm => 39
  | .vmem => 0
  | .smem => 0
  | _ => 0

abbrev bufTy : (tb : Table) → Fin (tcTables nBuf tb) → BufTy
  | .hbm, ⟨0, _⟩ => ⟨S16x4096x1024, .f32⟩
  | .hbm, ⟨1, _⟩ => ⟨S16x6x1024, .f32⟩
  | .hbm, ⟨2, _⟩ => ⟨S1024, .f32⟩
  | .hbm, ⟨3, _⟩ => ⟨S1024x2312, .f32⟩
  | .hbm, ⟨4, _⟩ => ⟨S64, .f32⟩
  | .hbm, ⟨5, _⟩ => ⟨S64, .f32⟩
  | .hbm, ⟨6, _⟩ => ⟨S8, .f32⟩
  | .hbm, ⟨7, _⟩ => ⟨S16x1x1024, .f32⟩
  | .hbm, ⟨8, _⟩ => ⟨S16x1x1024, .f32⟩
  | .hbm, ⟨9, _⟩ => ⟨S16x4096x1024, .f32⟩
  | .hbm, ⟨10, _⟩ => ⟨S_, .f32⟩
  | .hbm, ⟨11, _⟩ => ⟨S16x4096, .f32⟩
  | .hbm, ⟨12, _⟩ => ⟨S16x4096x1, .f32⟩
  | .hbm, ⟨13, _⟩ => ⟨S_, .f32⟩
  | .hbm, ⟨14, _⟩ => ⟨S16x4096x1, .f32⟩
  | .hbm, ⟨15, _⟩ => ⟨S16x4096x1, .f32⟩
  | .hbm, ⟨16, _⟩ => ⟨S_, .f32⟩
  | .hbm, ⟨17, _⟩ => ⟨S16x4096x1, .f32⟩
  | .hbm, ⟨18, _⟩ => ⟨S16x4096x1, .f32⟩
  | .hbm, ⟨19, _⟩ => ⟨S16x4096x1, .f32⟩
  | .hbm, ⟨20, _⟩ => ⟨S16x4096x1024, .f32⟩
  | .hbm, ⟨21, _⟩ => ⟨S16x4096x1024, .f32⟩
  | .hbm, ⟨22, _⟩ => ⟨S1x1x1024, .f32⟩
  | .hbm, ⟨23, _⟩ => ⟨S16x4096x1024, .f32⟩
  | .hbm, ⟨24, _⟩ => ⟨S16x4096x1024, .f32⟩
  | .hbm, ⟨25, _⟩ => ⟨S_, .f32⟩
  | .hbm, ⟨26, _⟩ => ⟨S16x1x1024, .f32⟩
  | .hbm, ⟨27, _⟩ => ⟨S16x1x1024, .f32⟩
  | .hbm, ⟨28, _⟩ => ⟨S16x4096x1024, .f32⟩
  | .hbm, ⟨29, _⟩ => ⟨S16x4096x1024, .f32⟩
  | .hbm, ⟨30, _⟩ => ⟨S16x4096x1024, .f32⟩
  | .hbm, ⟨31, _⟩ => ⟨S16x4096x1024, .f32⟩
  | .hbm, ⟨32, _⟩ => ⟨S16x4096x2312, .f32⟩
  | .hbm, ⟨33, _⟩ => ⟨S16x4096x512, .f32⟩
  | .hbm, ⟨34, _⟩ => ⟨S16x4096x128, .f32⟩
  | .hbm, ⟨35, _⟩ => ⟨S16x4096x128, .f32⟩
  | .hbm, ⟨36, _⟩ => ⟨S16x4096x512, .f32⟩
  | .hbm, ⟨37, _⟩ => ⟨S16x4096x1024, .f32⟩
  | .hbm, ⟨38, _⟩ => ⟨S16x4096x8, .f32⟩
  | _, _ => ⟨S16x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_cst_1 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_2 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩

abbrev nD : Nat := 1
abbrev τ : Topo := Topo.v7x

variable {F : FTy → Type} [FloatOps F]
-- ==== Kernel4.lean ====
abbrev S16x4096x1024 : Shape := ⟨3, ![16, 4096, 1024]⟩
abbrev S16x6x1024 : Shape := ⟨3, ![16, 6, 1024]⟩
abbrev S1024 : Shape := ⟨1, ![1024]⟩
abbrev S1024x2064 : Shape := ⟨2, ![1024, 2064]⟩
abbrev S16x256 : Shape := ⟨2, ![16, 256]⟩
abbrev S256 : Shape := ⟨1, ![256]⟩
abbrev S1024x512 : Shape := ⟨2, ![1024, 512]⟩
abbrev S1024x256 : Shape := ⟨2, ![1024, 256]⟩
abbrev S1024x16 : Shape := ⟨2, ![1024, 16]⟩
abbrev S_ : Shape := ⟨0, ![]⟩
abbrev S1024x112 : Shape := ⟨2, ![1024, 112]⟩
abbrev S1024x2176 : Shape := ⟨2, ![1024, 2176]⟩
abbrev S112x256 : Shape := ⟨2, ![112, 256]⟩
abbrev S128x256 : Shape := ⟨2, ![128, 256]⟩
abbrev S1x1024 : Shape := ⟨2, ![1, 1024]⟩
abbrev S1x256 : Shape := ⟨2, ![1, 256]⟩
abbrev S16x4096x512 : Shape := ⟨3, ![16, 4096, 512]⟩
abbrev S16x4096x256 : Shape := ⟨3, ![16, 4096, 256]⟩
abbrev S1x512x1024 : Shape := ⟨3, ![1, 512, 1024]⟩
abbrev S1x6x1024 : Shape := ⟨3, ![1, 6, 1024]⟩
abbrev S1x512x512 : Shape := ⟨3, ![1, 512, 512]⟩
abbrev S1x512x256 : Shape := ⟨3, ![1, 512, 256]⟩
abbrev S6x1024 : Shape := ⟨2, ![6, 1024]⟩
abbrev S512x1024 : Shape := ⟨2, ![512, 1024]⟩
abbrev S512 : Shape := ⟨1, ![512]⟩
abbrev S512x1 : Shape := ⟨2, ![512, 1]⟩
abbrev S512x512 : Shape := ⟨2, ![512, 512]⟩
abbrev S1024x128 : Shape := ⟨2, ![1024, 128]⟩
abbrev S512x128 : Shape := ⟨2, ![512, 128]⟩
abbrev S512x256 : Shape := ⟨2, ![512, 256]⟩

abbrev nBuf : Space → Nat
  | .hbm => 27
  | .vmem => 18
  | .smem => 0
  | _ => 0

abbrev bufTy : (tb : Table) → Fin (tcTables nBuf tb) → BufTy
  | .hbm, ⟨0, _⟩ => ⟨S16x4096x1024, .f32⟩
  | .hbm, ⟨1, _⟩ => ⟨S16x6x1024, .f32⟩
  | .hbm, ⟨2, _⟩ => ⟨S1024, .f32⟩
  | .hbm, ⟨3, _⟩ => ⟨S1024x2064, .f32⟩
  | .hbm, ⟨4, _⟩ => ⟨S16x256, .f32⟩
  | .hbm, ⟨5, _⟩ => ⟨S256, .f32⟩
  | .hbm, ⟨6, _⟩ => ⟨S1024x512, .f32⟩
  | .hbm, ⟨7, _⟩ => ⟨S1024x256, .f32⟩
  | .hbm, ⟨8, _⟩ => ⟨S1024x256, .f32⟩
  | .hbm, ⟨9, _⟩ => ⟨S1024x512, .f32⟩
  | .hbm, ⟨10, _⟩ => ⟨S1024x16, .f32⟩
  | .hbm, ⟨11, _⟩ => ⟨S1024x512, .f32⟩
  | .hbm, ⟨12, _⟩ => ⟨S_, .f32⟩
  | .hbm, ⟨13, _⟩ => ⟨S1024x112, .f32⟩
  | .hbm, ⟨14, _⟩ => ⟨S1024x2176, .f32⟩
  | .hbm, ⟨15, _⟩ => ⟨S1024x2176, .bf16⟩
  | .hbm, ⟨16, _⟩ => ⟨S_, .f32⟩
  | .hbm, ⟨17, _⟩ => ⟨S112x256, .f32⟩
  | .hbm, ⟨18, _⟩ => ⟨S128x256, .f32⟩
  | .hbm, ⟨19, _⟩ => ⟨S128x256, .bf16⟩
  | .hbm, ⟨20, _⟩ => ⟨S1x1024, .f32⟩
  | .hbm, ⟨21, _⟩ => ⟨S1x256, .f32⟩
  | .hbm, ⟨22, _⟩ => ⟨S16x4096x512, .f32⟩
  | .hbm, ⟨23, _⟩ => ⟨S16x4096x512, .f32⟩
  | .hbm, ⟨24, _⟩ => ⟨S16x4096x512, .f32⟩
  | .hbm, ⟨25, _⟩ => ⟨S16x4096x512, .f32⟩
  | .hbm, ⟨26, _⟩ => ⟨S16x4096x256, .f32⟩
  | .local _ .vmem, ⟨0, _⟩ => ⟨S1x512x1024, .f32⟩
  | .local _ .vmem, ⟨1, _⟩ => ⟨S1x512x1024, .f32⟩
  | .local _ .vmem, ⟨2, _⟩ => ⟨S1x6x1024, .f32⟩
  | .local _ .vmem, ⟨3, _⟩ => ⟨S1x6x1024, .f32⟩
  | .local _ .vmem, ⟨4, _⟩ => ⟨S1x1024, .f32⟩
  | .local _ .vmem, ⟨5, _⟩ => ⟨S1024x2176, .bf16⟩
  | .local _ .vmem, ⟨6, _⟩ => ⟨S128x256, .bf16⟩
  | .local _ .vmem, ⟨7, _⟩ => ⟨S1x256, .f32⟩
  | .local _ .vmem, ⟨8, _⟩ => ⟨S1x512x512, .f32⟩
  | .local _ .vmem, ⟨9, _⟩ => ⟨S1x512x512, .f32⟩
  | .local _ .vmem, ⟨10, _⟩ => ⟨S1x512x512, .f32⟩
  | .local _ .vmem, ⟨11, _⟩ => ⟨S1x512x512, .f32⟩
  | .local _ .vmem, ⟨12, _⟩ => ⟨S1x512x512, .f32⟩
  | .local _ .vmem, ⟨13, _⟩ => ⟨S1x512x512, .f32⟩
  | .local _ .vmem, ⟨14, _⟩ => ⟨S1x512x512, .f32⟩
  | .local _ .vmem, ⟨15, _⟩ => ⟨S1x512x512, .f32⟩
  | .local _ .vmem, ⟨16, _⟩ => ⟨S1x512x256, .f32⟩
  | .local _ .vmem, ⟨17, _⟩ => ⟨S1x512x256, .f32⟩
  | _, _ => ⟨S16x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14_0 : Ref sig .tc := ⟨.hbm, 22, rfl⟩
abbrev main_v14_1 : Ref sig .tc := ⟨.hbm, 23, rfl⟩
abbrev main_v14_2 : Ref sig .tc := ⟨.hbm, 24, rfl⟩
abbrev main_v14_3 : Ref sig .tc := ⟨.hbm, 25, rfl⟩
abbrev main_v14_4 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17

abbrev nD : Nat := 1
abbrev τ : Topo := Topo.v7x

variable {F : FTy → Type} [FloatOps F]

abbrev grid0 : Pipeline.Grid := ⟨2, ![16, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x6x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x2176 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S128x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x512x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x512x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x512x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== Reference4Ideal.lean ====
abbrev S16x4096x1024 : Shape := ⟨3, ![16, 4096, 1024]⟩
abbrev S16x6x1024 : Shape := ⟨3, ![16, 6, 1024]⟩
abbrev S1024 : Shape := ⟨1, ![1024]⟩
abbrev S1024x2064 : Shape := ⟨2, ![1024, 2064]⟩
abbrev S16x256 : Shape := ⟨2, ![16, 256]⟩
abbrev S256 : Shape := ⟨1, ![256]⟩
abbrev S16x1x1024 : Shape := ⟨3, ![16, 1, 1024]⟩
abbrev S_ : Shape := ⟨0, ![]⟩
abbrev S16x4096 : Shape := ⟨2, ![16, 4096]⟩
abbrev S16x4096x1 : Shape := ⟨3, ![16, 4096, 1]⟩
abbrev S1x1x1024 : Shape := ⟨3, ![1, 1, 1024]⟩
abbrev S16x4096x2064 : Shape := ⟨3, ![16, 4096, 2064]⟩
abbrev S16x4096x512 : Shape := ⟨3, ![16, 4096, 512]⟩
abbrev S16x4096x16 : Shape := ⟨3, ![16, 4096, 16]⟩

abbrev nBuf : Space → Nat
  | .hbm => 37
  | .vmem => 0
  | .smem => 0
  | _ => 0

abbrev bufTy : (tb : Table) → Fin (tcTables nBuf tb) → BufTy
  | .hbm, ⟨0, _⟩ => ⟨S16x4096x1024, .f32⟩
  | .hbm, ⟨1, _⟩ => ⟨S16x6x1024, .f32⟩
  | .hbm, ⟨2, _⟩ => ⟨S1024, .f32⟩
  | .hbm, ⟨3, _⟩ => ⟨S1024x2064, .f32⟩
  | .hbm, ⟨4, _⟩ => ⟨S16x256, .f32⟩
  | .hbm, ⟨5, _⟩ => ⟨S256, .f32⟩
  | .hbm, ⟨6, _⟩ => ⟨S16x1x1024, .f32⟩
  | .hbm, ⟨7, _⟩ => ⟨S16x1x1024, .f32⟩
  | .hbm, ⟨8, _⟩ => ⟨S16x4096x1024, .f32⟩
  | .hbm, ⟨9, _⟩ => ⟨S_, .f32⟩
  | .hbm, ⟨10, _⟩ => ⟨S16x4096, .f32⟩
  | .hbm, ⟨11, _⟩ => ⟨S16x4096x1, .f32⟩
  | .hbm, ⟨12, _⟩ => ⟨S_, .f32⟩
  | .hbm, ⟨13, _⟩ => ⟨S16x4096x1, .f32⟩
  | .hbm, ⟨14, _⟩ => ⟨S16x4096x1, .f32⟩
  | .hbm, ⟨15, _⟩ => ⟨S_, .f32⟩
  | .hbm, ⟨16, _⟩ => ⟨S16x4096x1, .f32⟩
  | .hbm, ⟨17, _⟩ => ⟨S16x4096x1, .f32⟩
  | .hbm, ⟨18, _⟩ => ⟨S16x4096x1, .f32⟩
  | .hbm, ⟨19, _⟩ => ⟨S16x4096x1024, .f32⟩
  | .hbm, ⟨20, _⟩ => ⟨S16x4096x1024, .f32⟩
  | .hbm, ⟨21, _⟩ => ⟨S1x1x1024, .f32⟩
  | .hbm, ⟨22, _⟩ => ⟨S16x4096x1024, .f32⟩
  | .hbm, ⟨23, _⟩ => ⟨S16x4096x1024, .f32⟩
  | .hbm, ⟨24, _⟩ => ⟨S_, .f32⟩
  | .hbm, ⟨25, _⟩ => ⟨S16x1x1024, .f32⟩
  | .hbm, ⟨26, _⟩ => ⟨S16x1x1024, .f32⟩
  | .hbm, ⟨27, _⟩ => ⟨S16x4096x1024, .f32⟩
  | .hbm, ⟨28, _⟩ => ⟨S16x4096x1024, .f32⟩
  | .hbm, ⟨29, _⟩ => ⟨S16x4096x1024, .f32⟩
  | .hbm, ⟨30, _⟩ => ⟨S16x4096x1024, .f32⟩
  | .hbm, ⟨31, _⟩ => ⟨S16x4096x2064, .f32⟩
  | .hbm, ⟨32, _⟩ => ⟨S16x4096x512, .f32⟩
  | .hbm, ⟨33, _⟩ => ⟨S16x4096x512, .f32⟩
  | .hbm, ⟨34, _⟩ => ⟨S16x4096x512, .f32⟩
  | .hbm, ⟨35, _⟩ => ⟨S16x4096x16, .f32⟩
  | .hbm, ⟨36, _⟩ => ⟨S16x4096x512, .f32⟩
  | _, _ => ⟨S16x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩

abbrev nD : Nat := 1
abbrev τ : Topo := Topo.v7x

variable {F : FTy → Type} [FloatOps F]
-- ==== Proof.ProjSpec.lean ====
module

public import Idealize.ShloMosaic.PureOps.Ideal
public import Idealize.ShloMosaic.Lib.IdealHost

/-!
# The layers' input projections over the extended reals

A token's row is normed, scaled and shifted, and multiplied by the weight; every result is a range of columns of the
product. The kernels and the references of both layers are read as these functions.
-/

@[expose] public section

noncomputable section

namespace Cert.Proj

open Idealize.ShloMosaic

/-- A row normed by its mean square, over the 1024 channels. -/
def nrm (x : Fin 1024 → EReal) (k : Fin 1024) : EReal :=
  x k * Ideal.rsqrt (Ideal.div (∑ j : Fin 1024, x j * x j) (Ideal.ofBits .f32 0x44800000#32) + Ideal.ofBits .f32 0x358637BD#32)

/-- The arrays of the call that these results depend on: tokens, modulation, the norm's scale, the weight. -/
structure Args (N : ℕ) where
  x : Fin 16 → Fin 4096 → Fin 1024 → EReal
  md : Fin 16 → Fin 6 → Fin 1024 → EReal
  ng : Fin 1024 → EReal
  w : Fin 1024 → Fin N → EReal

variable {N : ℕ} (a : Args N) (b : Fin 16) (t : Fin 4096)

/-- The modulated row of a token. -/
def hn (k : Fin 1024) : EReal := nrm (a.x b t) k * a.ng k * (1 + a.md b 1 k) + a.md b 0 k

/-- The row times the weight. -/
def z (n : Fin N) : EReal := ∑ k : Fin 1024, hn a b t k * a.w k n

/-- `k` of the product's columns, from column `off`. -/
def cols {N : ℕ} (off k : ℕ) (h : off + k ≤ N) (a : Args N) (b : Fin 16) (t : Fin 4096) (n : Fin k) : EReal := z a b t ⟨off + n.val, by omega⟩

end Cert.Proj
end
-- ==== Proof.OdBlocks.lean ====
module

public import proofs.«01_k».proof.Proof.ProjSpec
public import proofs.«01_k».proof.Proof.Gen.Kernel3Ideal.Value
public import Idealize.ShloMosaic.Lib.Pointwise
public import Idealize.ShloMosaic.Lib.Claim
public import Idealize.ShloMosaic.Lib.Pipeline.ValueKit
public import Idealize.ShloMosaic.Lib.StableHlo.ReadAt

/-!
# What the input projection's kernel computes

Point `t` works on batch `t / 8` and on the 512 tokens of tile `t % 8`. Its blocks are read off the arguments, its
output blocks are the projection's values, gates and scan's channels on those tokens, and the blocks tile the arrays.
-/

@[expose] public section

set_option maxRecDepth 16384

noncomputable section

namespace Cert.Kernel3Ideal.Value

open Cert.Kernel3Ideal Cert.Kernel3Ideal.Gen Idealize.ShloMosaic Idealize.ShloMosaic.TcCoe Idealize.SL.Sem
open Idealize.ShloMosaic.StableHlo Idealize.ShloMosaic.Pipeline

variable (m : (ℓ : Loc nD τ sig) → Buf (Elt Ideal) ℓ) (c : Dev nD)

/-- The normed and modulated rows. -/
theorem hn_apply (v0 : Vec Ideal S1x6x1024 .f32) (v2 : Vec Ideal S1x512x1024 .f32) (v4 : Vec Ideal S1x1024 .f32) (l : Fin 512) (k : Fin 1024) :
    (k0_pay4 v0 v2 v4 (ix2 l k) : EReal) = Proj.nrm (fun j => v2 (ix3 0 l j)) k * v4 (ix2 0 k) * (1 + v0 (ix3 0 1 k)) + v0 (ix3 0 0 k) := by
  unfold Proj.nrm
  pointwise [k0_pay4]

theorem v_apply (h : FVec Ideal S512x1024 .bf16) (w : Vec Ideal S1024x128 .bf16) (l : Fin 512) (n : Fin 128) :
    (k0_pay20 h w (ix3 0 l n) : EReal) = ∑ k : Fin 1024, (h (ix2 l k) * w (ix2 k n) : EReal) := by
  pointwise [k0_pay20]
theorem zg_apply (h : FVec Ideal S512x1024 .bf16) (w : Vec Ideal S1024x512 .bf16) (l : Fin 512) (n : Fin 512) :
    (k0_pay21 h w (ix3 0 l n) : EReal) = ∑ k : Fin 1024, (h (ix2 l k) * w (ix2 k n) : EReal) := by
  pointwise [k0_pay21]
theorem xbc_apply (h : FVec Ideal S512x1024 .bf16) (w : Vec Ideal S1024x1024 .bf16) (l : Fin 512) (n : Fin 1024) :
    (k0_pay22 h w (ix3 0 l n) : EReal) = ∑ k : Fin 1024, (h (ix2 l k) * w (ix2 k n) : EReal) := by
  pointwise [k0_pay22]

/-- Where each input window's block lies. -/
theorem idx : ∀ t : Fin cfg0.N, win0_0.index t = ![t.val / 8, t.val % 8, 0] ∧ win0_1.index t = ![t.val / 8, 0, 0]
    ∧ win0_2.index t = ![0, 0] ∧ win0_3.index t = ![0, 0] :=
  (by decide +kernel : ∀ t : Fin grid0.N, _)

/-- Where the blocks of the three outputs lie. -/
theorem idxO : ∀ t : Fin cfg0.N, win0_9.index t = ![t.val / 8, t.val % 8, 0] ∧ win0_10.index t = ![t.val / 8, t.val % 8, 0]
    ∧ win0_11.index t = ![t.val / 8, t.val % 8, 0] :=
  (by decide +kernel : ∀ t : Fin grid0.N, _)

theorem lt128 (t : Fin cfg0.N) : t.val < 128 := lt_of_lt_of_eq t.isLt (show cfg0.N = 128 from N_0)

/-- The arguments as the functions that the calculation takes. -/
def argsK : Proj.Args 2312 where
  x b t k := m ((c : Thread nD τ).loc main_arg0) (ix3 b t k)
  md b j k := m ((c : Thread nD τ).loc main_arg1) (ix3 b j k)
  ng k := m ((c : Thread nD τ).loc main_arg2) (ix1 k)
  w k n := m ((c : Thread nD τ).loc main_arg3) (ix2 k n)

/-- The batch of point `t`. -/
abbrev batch (t : Fin cfg0.N) : Fin 16 := ⟨t.val / 8, by have := lt128 t; omega⟩
/-- Token `l` of the tile of point `t`. -/
abbrev tok (t : Fin cfg0.N) (l : Fin 512) : Fin 4096 := ⟨512 * (t.val % 8) + l.val, by omega⟩

variable (t : Fin cfg0.N)

theorem iblk0 (l : Fin 512) (x : Fin 1024) : (iblk m c 0 t : Vec Ideal S1x512x1024 .f32) (ix3 0 l x) = (argsK m c).x (batch t) (tok t l) x := by
  have e := (idx t).1
  unfold argsK
  dsimp only
  blk_ext [iblk, V_main_arg0, e]
theorem iblk1 (j : Fin 6) (x : Fin 1024) : (iblk m c 1 t : Vec Ideal S1x6x1024 .f32) (ix3 0 j x) = (argsK m c).md (batch t) j x := by
  have e := (idx t).2.1
  unfold argsK
  dsimp only
  blk_ext [iblk, V_main_arg1, e]
theorem iblk2 (x : Fin 1024) : (iblk m c 2 t : Vec Ideal S1x1024 .f32) (ix2 0 x) = (argsK m c).ng x := by
  have e := (idx t).2.2.1
  unfold argsK
  dsimp only
  blk_point [iblk, V, e]
theorem iblk3 (k : Fin 1024) (n : Fin 2432) (hn : n.val < 2312) : (iblk m c 3 t : Vec Ideal S1024x2432 .bf16) (ix2 k n) = (argsK m c).w k ⟨n.val, hn⟩ := by
  have e := (idx t).2.2.2
  unfold argsK
  dsimp only
  have e2 : (V m c main_v2 : Vec Ideal S1024x2432 .bf16) (ix2 k n) = m ((c : Thread nD τ).loc main_arg3) (ix2 k ⟨n.val, hn⟩) := by
    after_reads_at
    exact dif_pos hn
  refine Eq.trans ?_ e2
  blk_ext [iblk, e]

/-- The modulated rows of the point's tokens. -/
abbrev hnB : FVec Ideal S512x1024 .bf16 := k0_pay4 (iblk m c 1 t) (iblk m c 0 t) (iblk m c 2 t)

theorem hnB_apply (l : Fin 512) (k : Fin 1024) : (hnB m c t (ix2 l k) : EReal) = Proj.hn (argsK m c) (batch t) (tok t l) k := by
  refine (hn_apply _ _ _ l k).trans ?_
  simp only [iblk0, iblk1, iblk2]
  rfl

/-- A product of the rows with columns of the weight. -/
theorem z_at (l : Fin 512) (f : Fin 1024 → EReal) (n : Fin 2312) (hf : ∀ k, f k = (argsK m c).w k n) :
    (∑ k : Fin 1024, (hnB m c t (ix2 l k) * f k : EReal)) = Proj.z (argsK m c) (batch t) (tok t l) n := by
  unfold Proj.z
  exact Finset.sum_congr rfl fun k _ => congrArg₂ (fun x y : EReal => x * y) (hnB_apply m c t l k) (hf k)

/-- A load of some of the weight's columns. -/
theorem ldW {w : ℕ} (off : ℕ) (h : off + w ≤ 2312) (inb : ∀ a : Fin 2, (![0, off] : Fin 2 → ℕ) a + (![1024, w] : Fin 2 → ℕ) a ≤ S1024x2432.size a)
    (k : Fin 1024) (n : Fin w) : View.ld (iblk m c 3 t : Vec Ideal S1024x2432 .bf16) (Rect.unit (s := S1024x2432) ![0, off] ![1024, w] inb) (ix2 k n)
      = (argsK m c).w k ⟨off + n.val, by omega⟩ := by
  refine Eq.trans (congrArg (iblk m c 3 t : Vec Ideal S1024x2432 .bf16) (funext fun a => ?_)) (iblk3 m c t k ⟨off + n.val, by omega⟩ (by show off + n.val < 2312; omega))
  match a with
  | ⟨0, _⟩ => exact Fin.ext (by show 0 + 1 * k.val = k.val; omega)
  | ⟨1, _⟩ => exact Fin.ext (by show off + 1 * n.val = off + n.val; omega)

theorem out9 (l : Fin 512) (n : Fin 128) :
    (out0_9 (iblk m c 0 t) (iblk m c 1 t) (iblk m c 2 t) (iblk m c 3 t) (iblk m c 4 t) (iblk m c 5 t) (iblk m c 6 t) (ix3 0 l n) : EReal)
      = Proj.cols 640 128 (by decide) (argsK m c) (batch t) (tok t l) n := by
  unfold out0_9 k0_pay23
  frame_out
  refine (v_apply (hnB m c t) _ l n).trans (z_at m c t l _ _ fun k => ?_)
  exact ldW m c t 640 (by omega) inb_S1024x2432_S1024x128_0_640 k n

theorem out10 (l : Fin 512) (n : Fin 512) :
    (out0_10 (iblk m c 0 t) (iblk m c 1 t) (iblk m c 2 t) (iblk m c 3 t) (iblk m c 4 t) (iblk m c 5 t) (iblk m c 6 t) (ix3 0 l n) : EReal)
      = Proj.cols 768 512 (by decide) (argsK m c) (batch t) (tok t l) n := by
  unfold out0_10 k0_pay23
  frame_out
  refine (zg_apply (hnB m c t) _ l n).trans (z_at m c t l _ _ fun k => ?_)
  exact ldW m c t 768 (by omega) inb_S1024x2432_S1024x512_0_768 k n

theorem out11 (l : Fin 512) (n : Fin 1024) :
    (out0_11 (iblk m c 0 t) (iblk m c 1 t) (iblk m c 2 t) (iblk m c 3 t) (iblk m c 4 t) (iblk m c 5 t) (iblk m c 6 t) (ix3 0 l n) : EReal)
      = Proj.cols 1280 1024 (by decide) (argsK m c) (batch t) (tok t l) n := by
  unfold out0_11 k0_pay23
  frame_out
  refine (xbc_apply (hnB m c t) _ l n).trans (z_at m c t l _ _ fun k => ?_)
  exact ldW m c t 1280 (by omega) inb_S1024x2432_S1024x1024_0_1280 k n

/-- The values, whole. -/
theorem final9 : (dats m 0 c).arrAt 9 cfg0.N = fun i => (Proj.cols 640 128 (by decide) (argsK m c) (i 0) (i 1) (i 2) : EReal) := by
  refine (dats m 0 c).arrAt_eq_of_covers 9 _ (by decide +kernel) fun t hf y => ?_
  have e := (idxO t).1
  obtain ⟨z, l, n, rfl⟩ : ∃ (z : Fin 1) (l : Fin 512) (n : Fin 128), y = ix3 z l n := ⟨y 0, y 1, y 2, eq_ix3 y⟩
  obtain rfl : z = 0 := Subsingleton.elim _ _
  blk_simp
  rw [after0_9]
  refine (out9 m c t l n).trans ?_
  refine congr (congr (congrArg (Proj.cols 640 128 (by decide) (argsK m c)) ?_) ?_) ?_
  · exact Fin.ext (Eq.trans (b := t.val / 8) rfl (by blk_simp [e]; try omega))
  · exact Fin.ext (Eq.trans (b := 512 * (t.val % 8) + l.val) rfl (by blk_simp [e]; try omega))
  · exact Fin.ext (by blk_simp [e])

/-- The gates, whole. -/
theorem final10 : (dats m 0 c).arrAt 10 cfg0.N = fun i => (Proj.cols 768 512 (by decide) (argsK m c) (i 0) (i 1) (i 2) : EReal) := by
  refine (dats m 0 c).arrAt_eq_of_covers 10 _ (by decide +kernel) fun t hf y => ?_
  have e := (idxO t).2.1
  obtain ⟨z, l, n, rfl⟩ : ∃ (z : Fin 1) (l : Fin 512) (n : Fin 512), y = ix3 z l n := ⟨y 0, y 1, y 2, eq_ix3 y⟩
  obtain rfl : z = 0 := Subsingleton.elim _ _
  blk_simp
  rw [after0_10]
  refine (out10 m c t l n).trans ?_
  refine congr (congr (congrArg (Proj.cols 768 512 (by decide) (argsK m c)) ?_) ?_) ?_
  · exact Fin.ext (Eq.trans (b := t.val / 8) rfl (by blk_simp [e]; try omega))
  · exact Fin.ext (Eq.trans (b := 512 * (t.val % 8) + l.val) rfl (by blk_simp [e]; try omega))
  · exact Fin.ext (by blk_simp [e])

/-- The scan's channels, whole. -/
theorem final11 : (dats m 0 c).arrAt 11 cfg0.N = fun i => (Proj.cols 1280 1024 (by decide) (argsK m c) (i 0) (i 1) (i 2) : EReal) := by
  refine (dats m 0 c).arrAt_eq_of_covers 11 _ (by decide +kernel) fun t hf y => ?_
  have e := (idxO t).2.2
  obtain ⟨z, l, n, rfl⟩ : ∃ (z : Fin 1) (l : Fin 512) (n : Fin 1024), y = ix3 z l n := ⟨y 0, y 1, y 2, eq_ix3 y⟩
  obtain rfl : z = 0 := Subsingleton.elim _ _
  blk_simp
  rw [after0_11]
  refine (out11 m c t l n).trans ?_
  refine congr (congr (congrArg (Proj.cols 1280 1024 (by decide) (argsK m c)) ?_) ?_) ?_
  · exact Fin.ext (Eq.trans (b := t.val / 8) rfl (by blk_simp [e]; try omega))
  · exact Fin.ext (Eq.trans (b := 512 * (t.val % 8) + l.val) rfl (by blk_simp [e]; try omega))
  · exact Fin.ext (by blk_simp [e])

end Cert.Kernel3Ideal.Value
end
-- ==== Proof.OdRef.lean ====
module

public import proofs.«01_k».proof.Proof.ProjSpec
public import proofs.«01_k».proof.Proof.Gen.Reference3Ideal.Run
public import Idealize.ShloMosaic.Lib.Pointwise
public import Idealize.ShloMosaic.Lib.Claim

/-!
# What the input projection's reference computes
-/

@[expose] public section

set_option maxRecDepth 16384

noncomputable section

namespace Cert.Reference3Ideal.Value

open Cert.Reference3Ideal Cert.Reference3Ideal.Gen Idealize.ShloMosaic Idealize.ShloMosaic.TcCoe Idealize.SL.Sem
open Idealize.ShloMosaic.StableHlo

/-- The normed and modulated tokens. -/
def hnR (x : FVec Ideal S16x4096x1024 .f32) (md : FVec Ideal S16x6x1024 .f32) (g : FVec Ideal S1024 .f32) : FVec Ideal S16x4096x1024 .f32 :=
  addf (mulf (mulf (mulf x (broadcastInDim S16x4096x1024 ![0, 1, 2] bcast_S16x4096x1_S16x4096x1024_0_1_2 (Host.rsqrt (addf (Host.divf
      (broadcastInDim S16x4096x1 ![0, 1] bcast_S16x4096_S16x4096x1_0_1 (Host.reduceAdd (mulf x x) (constant S_ .f32 0x00000000#32) reducesTo_S16x4096x1024_S16x4096_d2 h_S_))
      (broadcastInDim S16x4096x1 ![] bcast_S_S16x4096x1 (constant S_ .f32 0x44800000#32)))
      (broadcastInDim S16x4096x1 ![] bcast_S_S16x4096x1 (constant S_ .f32 0x358637BD#32))))))
      (broadcastInDim S16x4096x1024 ![0, 1, 2] bcast_S1x1x1024_S16x4096x1024_0_1_2 (broadcastInDim S1x1x1024 ![2] bcast_S1024_S1x1x1024_2 g)))
      (broadcastInDim S16x4096x1024 ![0, 1, 2] bcast_S16x1x1024_S16x4096x1024_0_1_2 (addf (broadcastInDim S16x1x1024 ![] bcast_S_S16x1x1024 (constant S_ .f32 0x3F800000#32))
        (extractStridedSlice S16x1x1024 ![0, 1, 0] md slices_S16x6x1024_S16x1x1024_0_1_0))))
    (broadcastInDim S16x4096x1024 ![0, 1, 2] bcast_S16x1x1024_S16x4096x1024_0_1_2 (extractStridedSlice S16x1x1024 ![0, 0, 0] md slices_S16x6x1024_S16x1x1024_0_0_0))

/-- Their product with the weight. -/
def zR (h : FVec Ideal S16x4096x1024 .f32) (w : FVec Ideal S1024x2312 .f32) : FVec Ideal S16x4096x2312 .f32 :=
  Host.dotGeneral dot_S16x4096x1024_S1024x2312_S16x4096x2312_2_0_01_1_n_n none h w

/-- The values. -/
def vR (z : FVec Ideal S16x4096x2312 .f32) : FVec Ideal S16x4096x128 .f32 := extractStridedSlice S16x4096x128 ![0, 0, 640] z slices_S16x4096x2312_S16x4096x128_0_0_640
/-- The gates. -/
def zgR (z : FVec Ideal S16x4096x2312 .f32) : FVec Ideal S16x4096x512 .f32 := extractStridedSlice S16x4096x512 ![0, 0, 768] z slices_S16x4096x2312_S16x4096x512_0_0_768
/-- The scan's channels. -/
def xbcR (z : FVec Ideal S16x4096x2312 .f32) : FVec Ideal S16x4096x1024 .f32 := extractStridedSlice S16x4096x1024 ![0, 0, 1280] z slices_S16x4096x2312_S16x4096x1024_0_0_1280

theorem hnR_apply (x : FVec Ideal S16x4096x1024 .f32) (md : FVec Ideal S16x6x1024 .f32) (g : FVec Ideal S1024 .f32) (b : Fin 16) (t : Fin 4096) (k : Fin 1024) :
    (hnR x md g (ix3 b t k) : EReal) = Proj.nrm (fun j => x (ix3 b t j)) k * g (ix1 k) * (1 + md (ix3 b 1 k)) + md (ix3 b 0 k) := by
  unfold Proj.nrm
  pointwise [hnR]

theorem zR_apply (h : FVec Ideal S16x4096x1024 .f32) (w : FVec Ideal S1024x2312 .f32) (b : Fin 16) (t : Fin 4096) (n : Fin 2312) :
    (zR h w (ix3 b t n) : EReal) = ∑ k : Fin 1024, (h (ix3 b t k) * w (ix2 k n) : EReal) := by
  pointwise [zR]

theorem vR_apply (z : FVec Ideal S16x4096x2312 .f32) (b : Fin 16) (t : Fin 4096) (n : Fin 128) : vR z (ix3 b t n) = z (ix3 b t ⟨640 + n.val, by omega⟩) := by
  pointwise [vR]
theorem zgR_apply (z : FVec Ideal S16x4096x2312 .f32) (b : Fin 16) (t : Fin 4096) (n : Fin 512) : zgR z (ix3 b t n) = z (ix3 b t ⟨768 + n.val, by omega⟩) := by
  pointwise [zgR]
theorem xbcR_apply (z : FVec Ideal S16x4096x2312 .f32) (b : Fin 16) (t : Fin 4096) (n : Fin 1024) : xbcR z (ix3 b t n) = z (ix3 b t ⟨1280 + n.val, by omega⟩) := by
  pointwise [xbcR]

variable (m : (ℓ : Loc nD τ sig) → Buf (Elt Ideal) ℓ) (c : Dev nD)

/-- The arguments, as functions. -/
def argsR : Proj.Args 2312 where
  x b t k := m ((c : Thread nD τ).loc main_arg0) (ix3 b t k)
  md b j k := m ((c : Thread nD τ).loc main_arg1) (ix3 b j k)
  ng k := m ((c : Thread nD τ).loc main_arg2) (ix1 k)
  w k n := m ((c : Thread nD τ).loc main_arg3) (ix2 k n)

/-- The product of the arguments. -/
def zM : FVec Ideal S16x4096x2312 .f32 :=
  zR (hnR (m ((c : Thread nD τ).loc main_arg0)) (m ((c : Thread nD τ).loc main_arg1)) (m ((c : Thread nD τ).loc main_arg2))) (m ((c : Thread nD τ).loc main_arg3))

theorem zM_apply (b : Fin 16) (t : Fin 4096) (n : Fin 2312) : (zM m c (ix3 b t n) : EReal) = Proj.z (argsR m c) b t n :=
  (zR_apply _ _ b t n).trans (Finset.sum_congr rfl fun k _ => congrArg (fun x : EReal => x * _) (hnR_apply _ _ _ b t k))

/-- The three results. -/
def res0 : FVec Ideal S16x4096x128 .f32 := fun i => Proj.cols 640 128 (by decide) (argsR m c) (i 0) (i 1) (i 2)
def res1 : FVec Ideal S16x4096x512 .f32 := fun i => Proj.cols 768 512 (by decide) (argsR m c) (i 0) (i 1) (i 2)
def res2 : FVec Ideal S16x4096x1024 .f32 := fun i => Proj.cols 1280 1024 (by decide) (argsR m c) (i 0) (i 1) (i 2)

theorem res0_eq : vR (zM m c) = res0 m c := by
  refine funext fun i => (congrArg _ (ix3_eta i).symm).trans (Eq.trans ?_ (zM_apply m c (i 0) (i 1) ⟨640 + (i 2).val, by have := (i 2).isLt; dsimp at this; omega⟩))
  generalize zM m c = z
  exact vR_apply z (i 0) (i 1) (i 2)
theorem res1_eq : zgR (zM m c) = res1 m c := by
  refine funext fun i => (congrArg _ (ix3_eta i).symm).trans (Eq.trans ?_ (zM_apply m c (i 0) (i 1) ⟨768 + (i 2).val, by have := (i 2).isLt; dsimp at this; omega⟩))
  generalize zM m c = z
  exact zgR_apply z (i 0) (i 1) (i 2)
theorem res2_eq : xbcR (zM m c) = res2 m c := by
  refine funext fun i => (congrArg _ (ix3_eta i).symm).trans (Eq.trans ?_ (zM_apply m c (i 0) (i 1) ⟨1280 + (i 2).val, by have := (i 2).isLt; dsimp at this; omega⟩))
  generalize zM m c = z
  exact xbcR_apply z (i 0) (i 1) (i 2)

/-- The reference's run: its results, and its arguments unchanged, with every counter at zero. -/
theorem runR (ρ : Dev nD → PrngReg) : θ_run (defs (F := Ideal)) (onTc (τ := τ) (main (F := Ideal))) ⟨m, fun _ => 0, ρ⟩ (fun r =>
    (∀ c : Dev nD, r.2.mem ((c.tc : Thread nD τ).loc main_v24) = res0 m c ∧ r.2.mem ((c.tc : Thread nD τ).loc main_v25) = res1 m c
      ∧ r.2.mem ((c.tc : Thread nD τ).loc main_v26) = res2 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
    ∧ r.2.sem = fun _ => 0) :=
  (θ_run (defs (F := Ideal)) _ _).mono (fun r h => ⟨fun c => by
    obtain ⟨h2, h3, h4, ha⟩ := h c
    exact ⟨h2.trans (res0_eq m c), h3.trans (res1_eq m c), h4.trans (res2_eq m c), ha⟩,
    sem_eq_zero_of_no_sems (by decide) _⟩) (run m ρ)

end Cert.Reference3Ideal.Value
end
-- ==== Proof.OdFinal.lean ====
module

public import proofs.«01_k».proof.Defs
public import proofs.«01_k».proof.Proof.OdBlocks
public import proofs.«01_k».proof.Proof.OdRef

/-!
# The input projection's kernel and its reference end with the same three results
-/

@[expose] public section

noncomputable section

namespace Cert.Od

open Idealize.ShloMosaic Idealize.SL.Sem

/-- Memories agreeing on the arguments give the same arrays. -/
theorem args_eq (m : (ℓ : Loc Cert.Kernel3Ideal.nD Cert.Kernel3Ideal.τ Cert.Kernel3Ideal.sig) → Buf (Elt Ideal) ℓ)
    (m' : (ℓ : Loc Cert.Reference3Ideal.nD Cert.Reference3Ideal.τ Cert.Reference3Ideal.sig) → Buf (Elt Ideal) ℓ) (c : Dev Cert.Kernel3Ideal.nD)
    (h0 : m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0))
    (h1 : m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1))
    (h2 : m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2))
    (h3 : m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) :
    Cert.Reference3Ideal.Value.argsR m' c = Cert.Kernel3Ideal.Value.argsK m c := by
  unfold Cert.Reference3Ideal.Value.argsR Cert.Kernel3Ideal.Value.argsK
  congr 1
  · funext b t k; exact congrFun h0 _
  · funext b j k; exact congrFun h1 _
  · funext k; exact congrFun h2 _
  · funext k n; exact congrFun h3 _

/-- The three results agree. -/
theorem algebraic : Cert.algebraic_Kernel3Ideal_Reference3Ideal := fun m ρ m' ρ' _ hag =>
  ⟨fun c => Cert.Reference3Ideal.Value.res0 m' c, fun c => Cert.Reference3Ideal.Value.res1 m' c, fun c => Cert.Reference3Ideal.Value.res2 m' c,
    (θ_run _ _ _).mono (fun _ h c => by
      obtain ⟨a0, a1, a2, a3, -⟩ := hag c
      have e := args_eq m m' c a0 a1 a2 a3
      obtain ⟨-, -, h0, h1, h2, -, -, ha⟩ := h c
      refine ⟨h0.trans ((Cert.Kernel3Ideal.Value.final9 m c).trans ?_), h1.trans ((Cert.Kernel3Ideal.Value.final10 m c).trans ?_),
        h2.trans ((Cert.Kernel3Ideal.Value.final11 m c).trans ?_), ha⟩
      all_goals rw [← e]; rfl) (Cert.Kernel3Ideal.Value.run_blocks m ρ),
    (θ_run _ _ _).mono (fun _ h => h.1) (Cert.Reference3Ideal.Value.runR m' ρ')⟩

end Cert.Od
end
-- ==== Proof.EvBlocks.lean ====
module

public import proofs.«01_k».proof.Proof.ProjSpec
public import proofs.«01_k».proof.Proof.Gen.Kernel4Ideal.Value
public import Idealize.ShloMosaic.Lib.Pointwise
public import Idealize.ShloMosaic.Lib.Claim
public import Idealize.ShloMosaic.Lib.Pipeline.ValueKit
public import Idealize.ShloMosaic.Lib.StableHlo.ReadAt

/-!
# What the even layer's input projection computes

Point `t` works on batch `t / 8` and on the 512 tokens of tile `t % 8`. Its blocks are read off the arguments, its
output blocks are ranges of the product's columns on those tokens, and the blocks tile the arrays.
-/

@[expose] public section

set_option maxRecDepth 16384

noncomputable section

namespace Cert.Kernel4Ideal.Value

open Cert.Kernel4Ideal Cert.Kernel4Ideal.Gen Idealize.ShloMosaic Idealize.ShloMosaic.TcCoe Idealize.SL.Sem
open Idealize.ShloMosaic.StableHlo Idealize.ShloMosaic.Pipeline

variable (m : (ℓ : Loc nD τ sig) → Buf (Elt Ideal) ℓ) (c : Dev nD)

/-- The normed and modulated rows. -/
theorem hn_apply (v0 : Vec Ideal S1x6x1024 .f32) (v2 : Vec Ideal S1x512x1024 .f32) (v4 : Vec Ideal S1x1024 .f32) (l : Fin 512) (k : Fin 1024) :
    (k0_pay2 v0 v2 v4 (ix2 l k) : EReal) = Proj.nrm (fun j => v2 (ix3 0 l j)) k * v4 (ix2 0 k) * (1 + v0 (ix3 0 1 k)) + v0 (ix3 0 0 k) := by
  unfold Proj.nrm
  pointwise [k0_pay2]

theorem pay3_apply (v0 : Vec Ideal S1x6x1024 .f32) (v2 : Vec Ideal S1x512x1024 .f32) (v4 : Vec Ideal S1x1024 .f32) (w : Vec Ideal S1024x512 .bf16) (l : Fin 512) (n : Fin 512) :
    (k0_pay3 v0 v2 v4 w (ix3 0 l n) : EReal) = ∑ k : Fin 1024, (k0_pay2 v0 v2 v4 (ix2 l k) * w (ix2 k n) : EReal) := by
  unfold k0_pay3
  generalize k0_pay2 v0 v2 v4 = h
  pointwise
theorem pay5_apply (v0 : Vec Ideal S1x6x1024 .f32) (v2 : Vec Ideal S1x512x1024 .f32) (v4 : Vec Ideal S1x1024 .f32) (w : Vec Ideal S1024x512 .bf16) (l : Fin 512) (n : Fin 512) :
    (k0_pay5 (k0_pay4 v0 v2 v4 w) (ix3 0 l n) : EReal) = ∑ k : Fin 1024, (k0_pay2 v0 v2 v4 (ix2 l k) * w (ix2 k n) : EReal) := by
  unfold k0_pay5 k0_pay4
  generalize k0_pay2 v0 v2 v4 = h
  pointwise
theorem pay6_apply (h : FVec Ideal S512x1024 .bf16) (w : Vec Ideal S1024x512 .bf16) (l : Fin 512) (n : Fin 512) :
    (k0_pay6 h w (ix3 0 l n) : EReal) = ∑ k : Fin 1024, (h (ix2 l k) * w (ix2 k n) : EReal) := by
  pointwise [k0_pay6]
theorem pay7_apply (h : FVec Ideal S512x1024 .bf16) (w : Vec Ideal S1024x512 .bf16) (l : Fin 512) (n : Fin 512) :
    (k0_pay7 h w (ix3 0 l n) : EReal) = ∑ k : Fin 1024, (h (ix2 l k) * w (ix2 k n) : EReal) := by
  pointwise [k0_pay7]

/-- Where each input window's block lies. -/
theorem idx : ∀ t : Fin cfg0.N, win0_0.index t = ![t.val / 8, t.val % 8, 0] ∧ win0_1.index t = ![t.val / 8, 0, 0]
    ∧ win0_2.index t = ![0, 0] ∧ win0_3.index t = ![0, 0] :=
  (by decide +kernel : ∀ t : Fin grid0.N, _)

/-- Where the blocks of the four outputs lie. -/
theorem idxO : ∀ t : Fin cfg0.N, win0_6.index t = ![t.val / 8, t.val % 8, 0] ∧ win0_7.index t = ![t.val / 8, t.val % 8, 0]
    ∧ win0_8.index t = ![t.val / 8, t.val % 8, 0] ∧ win0_9.index t = ![t.val / 8, t.val % 8, 0] :=
  (by decide +kernel : ∀ t : Fin grid0.N, _)

theorem lt128 (t : Fin cfg0.N) : t.val < 128 := lt_of_lt_of_eq t.isLt (show cfg0.N = 128 from N_0)

/-- The arguments as the functions that the calculation takes. -/
def argsK : Proj.Args 2064 where
  x b t k := m ((c : Thread nD τ).loc main_arg0) (ix3 b t k)
  md b j k := m ((c : Thread nD τ).loc main_arg1) (ix3 b j k)
  ng k := m ((c : Thread nD τ).loc main_arg2) (ix1 k)
  w k n := m ((c : Thread nD τ).loc main_arg3) (ix2 k n)

/-- The batch of point `t`. -/
abbrev batch (t : Fin cfg0.N) : Fin 16 := ⟨t.val / 8, by have := lt128 t; omega⟩
/-- Token `l` of the tile of point `t`. -/
abbrev tok (t : Fin cfg0.N) (l : Fin 512) : Fin 4096 := ⟨512 * (t.val % 8) + l.val, by omega⟩

variable (t : Fin cfg0.N)

theorem iblk0 (l : Fin 512) (x : Fin 1024) : (iblk m c 0 t : Vec Ideal S1x512x1024 .f32) (ix3 0 l x) = (argsK m c).x (batch t) (tok t l) x := by
  have e := (idx t).1
  unfold argsK
  dsimp only
  blk_ext [iblk, V_main_arg0, e]
theorem iblk1 (j : Fin 6) (x : Fin 1024) : (iblk m c 1 t : Vec Ideal S1x6x1024 .f32) (ix3 0 j x) = (argsK m c).md (batch t) j x := by
  have e := (idx t).2.1
  unfold argsK
  dsimp only
  blk_ext [iblk, V_main_arg1, e]
theorem iblk2 (x : Fin 1024) : (iblk m c 2 t : Vec Ideal S1x1024 .f32) (ix2 0 x) = (argsK m c).ng x := by
  have e := (idx t).2.2.1
  unfold argsK
  dsimp only
  blk_point [iblk, V, e]
/-- The column of the argument that column `n` of the kernel's weight is: the sixteen columns of the forget gate are moved last. -/
abbrev col (n : ℕ) : ℕ := if n < 1536 then n else n + 16
theorem iblk3 (k : Fin 1024) (n : Fin 2176) (hn : n.val < 2048) (n' : Fin 2064) (h' : n'.val = col n.val) : (iblk m c 3 t : Vec Ideal S1024x2176 .bf16) (ix2 k n) = (argsK m c).w k n' := by
  have e := (idx t).2.2.2
  unfold argsK
  dsimp only
  have e2 : (V m c main_v8 : Vec Ideal S1024x2176 .bf16) (ix2 k n) = m ((c : Thread nD τ).loc main_arg3) (ix2 k n') := by
    after_reads_at
    have h0 : n.val < 1536 ∧ n'.val = n.val ∨ 1536 ≤ n.val ∧ n'.val = n.val + 16 := by
      unfold col at h'
      split at h' <;> omega
    clear h'
    split_ifs
    all_goals first | omega | skip
    all_goals after_reads_at
    all_goals exact congrArg (fun x => m ((c : Thread nD τ).loc main_arg3) (ix2 k x)) (Fin.ext (by dsimp; omega))
  refine Eq.trans ?_ e2
  blk_ext [iblk, e]

/-- The modulated rows of the point's tokens. -/
abbrev hnB : FVec Ideal S512x1024 .bf16 := k0_pay2 (iblk m c 1 t) (iblk m c 0 t) (iblk m c 2 t)

theorem hnB_apply (l : Fin 512) (k : Fin 1024) : (hnB m c t (ix2 l k) : EReal) = Proj.hn (argsK m c) (batch t) (tok t l) k := by
  refine (hn_apply _ _ _ l k).trans ?_
  simp only [iblk0, iblk1, iblk2]
  rfl

/-- A product of the rows with columns of the weight. -/
theorem z_at (l : Fin 512) (f : Fin 1024 → EReal) (n : Fin 2064) (hf : ∀ k, f k = (argsK m c).w k n) :
    (∑ k : Fin 1024, (hnB m c t (ix2 l k) * f k : EReal)) = Proj.z (argsK m c) (batch t) (tok t l) n := by
  unfold Proj.z
  exact Finset.sum_congr rfl fun k _ => congrArg₂ (fun x y : EReal => x * y) (hnB_apply m c t l k) (hf k)

/-- A load of 512 of the weight's columns. -/
theorem ldW (off : ℕ) (ho : off + 512 ≤ 2048) (o' : ℕ) (h : ∀ n : ℕ, n < 512 → o' + n = col (off + n)) (h2 : o' + 512 ≤ 2064)
    (inb : ∀ a : Fin 2, (![0, off] : Fin 2 → ℕ) a + (![1024, 512] : Fin 2 → ℕ) a ≤ S1024x2176.size a)
    (k : Fin 1024) (n : Fin 512) : View.ld (iblk m c 3 t : Vec Ideal S1024x2176 .bf16) (Rect.unit (s := S1024x2176) ![0, off] ![1024, 512] inb) (ix2 k n)
      = (argsK m c).w k ⟨o' + n.val, by omega⟩ := by
  refine Eq.trans (congrArg (iblk m c 3 t : Vec Ideal S1024x2176 .bf16) (funext fun a => ?_))
    (iblk3 m c t k ⟨off + n.val, by omega⟩ (by show off + n.val < 2048; omega) _ (h n.val n.isLt))
  match a with
  | ⟨0, _⟩ => exact Fin.ext (by show 0 + 1 * k.val = k.val; omega)
  | ⟨1, _⟩ => exact Fin.ext (by show off + 1 * n.val = off + n.val; omega)

theorem out6 (l : Fin 512) (n : Fin 512) :
    (out0_6 (iblk m c 0 t) (iblk m c 1 t) (iblk m c 2 t) (iblk m c 3 t) (iblk m c 4 t) (iblk m c 5 t) (ix3 0 l n) : EReal)
      = Proj.cols 0 512 (by decide) (argsK m c) (batch t) (tok t l) n := by
  unfold out0_6
  frame_out
  refine (pay3_apply _ _ _ _ l n).trans (z_at m c t l _ _ fun k => ?_)
  exact ldW m c t 0 (by omega) 0 (fun n h => by unfold col; split <;> omega) (by omega) inb_S1024x2176_S1024x512_0_0 k n

theorem out7 (l : Fin 512) (n : Fin 512) :
    (out0_7 (iblk m c 0 t) (iblk m c 1 t) (iblk m c 2 t) (iblk m c 3 t) (iblk m c 4 t) (iblk m c 5 t) (ix3 0 l n) : EReal)
      = Proj.cols 512 512 (by decide) (argsK m c) (batch t) (tok t l) n := by
  unfold out0_7
  frame_out
  refine (pay5_apply _ _ _ _ l n).trans (z_at m c t l _ _ fun k => ?_)
  exact ldW m c t 512 (by omega) 512 (fun n h => by unfold col; split <;> omega) (by omega) inb_S1024x2176_S1024x512_0_512 k n

theorem out8 (l : Fin 512) (n : Fin 512) :
    (out0_8 (iblk m c 0 t) (iblk m c 1 t) (iblk m c 2 t) (iblk m c 3 t) (iblk m c 4 t) (iblk m c 5 t) (ix3 0 l n) : EReal)
      = Proj.cols 1024 512 (by decide) (argsK m c) (batch t) (tok t l) n := by
  unfold out0_8 k0_pay11
  frame_out
  refine (pay6_apply (hnB m c t) _ l n).trans (z_at m c t l _ _ fun k => ?_)
  exact ldW m c t 1024 (by omega) 1024 (fun n h => by unfold col; split <;> omega) (by omega) inb_S1024x2176_S1024x512_0_1024 k n

theorem out9 (l : Fin 512) (n : Fin 512) :
    (out0_9 (iblk m c 0 t) (iblk m c 1 t) (iblk m c 2 t) (iblk m c 3 t) (iblk m c 4 t) (iblk m c 5 t) (ix3 0 l n) : EReal)
      = Proj.cols 1552 512 (by decide) (argsK m c) (batch t) (tok t l) n := by
  unfold out0_9 k0_pay11
  frame_out
  refine (pay7_apply (hnB m c t) _ l n).trans (z_at m c t l _ _ fun k => ?_)
  exact ldW m c t 1536 (by omega) 1552 (fun n h => by unfold col; split <;> omega) (by omega) inb_S1024x2176_S1024x512_0_1536 k n

/-- The S5 mixer's inputs, whole. -/
theorem final6 : (dats m 0 c).arrAt 6 cfg0.N = fun i => (Proj.cols 0 512 (by decide) (argsK m c) (i 0) (i 1) (i 2) : EReal) := by
  refine (dats m 0 c).arrAt_eq_of_covers 6 _ (by decide +kernel) fun t hf y => ?_
  have e := (idxO t).1
  obtain ⟨z, l, n, rfl⟩ : ∃ (z : Fin 1) (l : Fin 512) (n : Fin 512), y = ix3 z l n := ⟨y 0, y 1, y 2, eq_ix3 y⟩
  obtain rfl : z = 0 := Subsingleton.elim _ _
  blk_simp
  rw [after0_6]
  refine (out6 m c t l n).trans ?_
  refine congr (congr (congrArg (Proj.cols 0 512 (by decide) (argsK m c)) ?_) ?_) ?_
  · exact Fin.ext (Eq.trans (b := t.val / 8) rfl (by blk_simp [e]; try omega))
  · exact Fin.ext (Eq.trans (b := 512 * (t.val % 8) + l.val) rfl (by blk_simp [e]; try omega))
  · exact Fin.ext (by blk_simp [e])

/-- The queries and keys, whole. -/
theorem final7 : (dats m 0 c).arrAt 7 cfg0.N = fun i => (Proj.cols 512 512 (by decide) (argsK m c) (i 0) (i 1) (i 2) : EReal) := by
  refine (dats m 0 c).arrAt_eq_of_covers 7 _ (by decide +kernel) fun t hf y => ?_
  have e := (idxO t).2.1
  obtain ⟨z, l, n, rfl⟩ : ∃ (z : Fin 1) (l : Fin 512) (n : Fin 512), y = ix3 z l n := ⟨y 0, y 1, y 2, eq_ix3 y⟩
  obtain rfl : z = 0 := Subsingleton.elim _ _
  blk_simp
  rw [after0_7]
  refine (out7 m c t l n).trans ?_
  refine congr (congr (congrArg (Proj.cols 512 512 (by decide) (argsK m c)) ?_) ?_) ?_
  · exact Fin.ext (Eq.trans (b := t.val / 8) rfl (by blk_simp [e]; try omega))
  · exact Fin.ext (Eq.trans (b := 512 * (t.val % 8) + l.val) rfl (by blk_simp [e]; try omega))
  · exact Fin.ext (by blk_simp [e])

/-- The values, whole. -/
theorem final8 : (dats m 0 c).arrAt 8 cfg0.N = fun i => (Proj.cols 1024 512 (by decide) (argsK m c) (i 0) (i 1) (i 2) : EReal) := by
  refine (dats m 0 c).arrAt_eq_of_covers 8 _ (by decide +kernel) fun t hf y => ?_
  have e := (idxO t).2.2.1
  obtain ⟨z, l, n, rfl⟩ : ∃ (z : Fin 1) (l : Fin 512) (n : Fin 512), y = ix3 z l n := ⟨y 0, y 1, y 2, eq_ix3 y⟩
  obtain rfl : z = 0 := Subsingleton.elim _ _
  blk_simp
  rw [after0_8]
  refine (out8 m c t l n).trans ?_
  refine congr (congr (congrArg (Proj.cols 1024 512 (by decide) (argsK m c)) ?_) ?_) ?_
  · exact Fin.ext (Eq.trans (b := t.val / 8) rfl (by blk_simp [e]; try omega))
  · exact Fin.ext (Eq.trans (b := 512 * (t.val % 8) + l.val) rfl (by blk_simp [e]; try omega))
  · exact Fin.ext (by blk_simp [e])

/-- The output gates, whole. -/
theorem final9 : (dats m 0 c).arrAt 9 cfg0.N = fun i => (Proj.cols 1552 512 (by decide) (argsK m c) (i 0) (i 1) (i 2) : EReal) := by
  refine (dats m 0 c).arrAt_eq_of_covers 9 _ (by decide +kernel) fun t hf y => ?_
  have e := (idxO t).2.2.2
  obtain ⟨z, l, n, rfl⟩ : ∃ (z : Fin 1) (l : Fin 512) (n : Fin 512), y = ix3 z l n := ⟨y 0, y 1, y 2, eq_ix3 y⟩
  obtain rfl : z = 0 := Subsingleton.elim _ _
  blk_simp
  rw [after0_9]
  refine (out9 m c t l n).trans ?_
  refine congr (congr (congrArg (Proj.cols 1552 512 (by decide) (argsK m c)) ?_) ?_) ?_
  · exact Fin.ext (Eq.trans (b := t.val / 8) rfl (by blk_simp [e]; try omega))
  · exact Fin.ext (Eq.trans (b := 512 * (t.val % 8) + l.val) rfl (by blk_simp [e]; try omega))
  · exact Fin.ext (by blk_simp [e])

end Cert.Kernel4Ideal.Value
end
-- ==== Proof.EvRef.lean ====
module

public import proofs.«01_k».proof.Proof.ProjSpec
public import proofs.«01_k».proof.Proof.Gen.Reference4Ideal.Run
public import Idealize.ShloMosaic.Lib.Pointwise
public import Idealize.ShloMosaic.Lib.Claim

/-!
# What the even layer's input projection's reference computes
-/

@[expose] public section

set_option maxRecDepth 16384

noncomputable section

namespace Cert.Reference4Ideal.Value

open Cert.Reference4Ideal Cert.Reference4Ideal.Gen Idealize.ShloMosaic Idealize.ShloMosaic.TcCoe Idealize.SL.Sem
open Idealize.ShloMosaic.StableHlo

/-- The normed and modulated tokens. -/
def hnR (x : FVec Ideal S16x4096x1024 .f32) (md : FVec Ideal S16x6x1024 .f32) (g : FVec Ideal S1024 .f32) : FVec Ideal S16x4096x1024 .f32 :=
  addf (mulf (mulf (mulf x (broadcastInDim S16x4096x1024 ![0, 1, 2] bcast_S16x4096x1_S16x4096x1024_0_1_2 (Host.rsqrt (addf (Host.divf
      (broadcastInDim S16x4096x1 ![0, 1] bcast_S16x4096_S16x4096x1_0_1 (Host.reduceAdd (mulf x x) (constant S_ .f32 0x00000000#32) reducesTo_S16x4096x1024_S16x4096_d2 h_S_))
      (broadcastInDim S16x4096x1 ![] bcast_S_S16x4096x1 (constant S_ .f32 0x44800000#32)))
      (broadcastInDim S16x4096x1 ![] bcast_S_S16x4096x1 (constant S_ .f32 0x358637BD#32))))))
      (broadcastInDim S16x4096x1024 ![0, 1, 2] bcast_S1x1x1024_S16x4096x1024_0_1_2 (broadcastInDim S1x1x1024 ![2] bcast_S1024_S1x1x1024_2 g)))
      (broadcastInDim S16x4096x1024 ![0, 1, 2] bcast_S16x1x1024_S16x4096x1024_0_1_2 (addf (broadcastInDim S16x1x1024 ![] bcast_S_S16x1x1024 (constant S_ .f32 0x3F800000#32))
        (extractStridedSlice S16x1x1024 ![0, 1, 0] md slices_S16x6x1024_S16x1x1024_0_1_0))))
    (broadcastInDim S16x4096x1024 ![0, 1, 2] bcast_S16x1x1024_S16x4096x1024_0_1_2 (extractStridedSlice S16x1x1024 ![0, 0, 0] md slices_S16x6x1024_S16x1x1024_0_0_0))

/-- Their product with the weight. -/
def zR (h : FVec Ideal S16x4096x1024 .f32) (w : FVec Ideal S1024x2064 .f32) : FVec Ideal S16x4096x2064 .f32 :=
  Host.dotGeneral dot_S16x4096x1024_S1024x2064_S16x4096x2064_2_0_01_1_n_n none h w

/-- The S5 mixer's inputs. -/
def uR (z : FVec Ideal S16x4096x2064 .f32) : FVec Ideal S16x4096x512 .f32 := extractStridedSlice S16x4096x512 ![0, 0, 0] z slices_S16x4096x2064_S16x4096x512_0_0_0
/-- The queries and keys. -/
def qkR (z : FVec Ideal S16x4096x2064 .f32) : FVec Ideal S16x4096x512 .f32 := extractStridedSlice S16x4096x512 ![0, 0, 512] z slices_S16x4096x2064_S16x4096x512_0_0_512
/-- The values. -/
def vR (z : FVec Ideal S16x4096x2064 .f32) : FVec Ideal S16x4096x512 .f32 := extractStridedSlice S16x4096x512 ![0, 0, 1024] z slices_S16x4096x2064_S16x4096x512_0_0_1024
/-- The output gates. -/
def rR (z : FVec Ideal S16x4096x2064 .f32) : FVec Ideal S16x4096x512 .f32 := extractStridedSlice S16x4096x512 ![0, 0, 1552] z slices_S16x4096x2064_S16x4096x512_0_0_1552

theorem hnR_apply (x : FVec Ideal S16x4096x1024 .f32) (md : FVec Ideal S16x6x1024 .f32) (g : FVec Ideal S1024 .f32) (b : Fin 16) (t : Fin 4096) (k : Fin 1024) :
    (hnR x md g (ix3 b t k) : EReal) = Proj.nrm (fun j => x (ix3 b t j)) k * g (ix1 k) * (1 + md (ix3 b 1 k)) + md (ix3 b 0 k) := by
  unfold Proj.nrm
  pointwise [hnR]

theorem zR_apply (h : FVec Ideal S16x4096x1024 .f32) (w : FVec Ideal S1024x2064 .f32) (b : Fin 16) (t : Fin 4096) (n : Fin 2064) :
    (zR h w (ix3 b t n) : EReal) = ∑ k : Fin 1024, (h (ix3 b t k) * w (ix2 k n) : EReal) := by
  pointwise [zR]

theorem uR_apply (z : FVec Ideal S16x4096x2064 .f32) (b : Fin 16) (t : Fin 4096) (n : Fin 512) : uR z (ix3 b t n) = z (ix3 b t ⟨0 + n.val, by omega⟩) := by
  pointwise [uR]
theorem qkR_apply (z : FVec Ideal S16x4096x2064 .f32) (b : Fin 16) (t : Fin 4096) (n : Fin 512) : qkR z (ix3 b t n) = z (ix3 b t ⟨512 + n.val, by omega⟩) := by
  pointwise [qkR]
theorem vR_apply (z : FVec Ideal S16x4096x2064 .f32) (b : Fin 16) (t : Fin 4096) (n : Fin 512) : vR z (ix3 b t n) = z (ix3 b t ⟨1024 + n.val, by omega⟩) := by
  pointwise [vR]
theorem rR_apply (z : FVec Ideal S16x4096x2064 .f32) (b : Fin 16) (t : Fin 4096) (n : Fin 512) : rR z (ix3 b t n) = z (ix3 b t ⟨1552 + n.val, by omega⟩) := by
  pointwise [rR]

variable (m : (ℓ : Loc nD τ sig) → Buf (Elt Ideal) ℓ) (c : Dev nD)

/-- The arguments, as functions. -/
def argsR : Proj.Args 2064 where
  x b t k := m ((c : Thread nD τ).loc main_arg0) (ix3 b t k)
  md b j k := m ((c : Thread nD τ).loc main_arg1) (ix3 b j k)
  ng k := m ((c : Thread nD τ).loc main_arg2) (ix1 k)
  w k n := m ((c : Thread nD τ).loc main_arg3) (ix2 k n)

/-- The product of the arguments. -/
def zM : FVec Ideal S16x4096x2064 .f32 :=
  zR (hnR (m ((c : Thread nD τ).loc main_arg0)) (m ((c : Thread nD τ).loc main_arg1)) (m ((c : Thread nD τ).loc main_arg2))) (m ((c : Thread nD τ).loc main_arg3))

theorem zM_apply (b : Fin 16) (t : Fin 4096) (n : Fin 2064) : (zM m c (ix3 b t n) : EReal) = Proj.z (argsR m c) b t n :=
  (zR_apply _ _ b t n).trans (Finset.sum_congr rfl fun k _ => congrArg (fun x : EReal => x * _) (hnR_apply _ _ _ b t k))

/-- The four results. -/
def res0 : FVec Ideal S16x4096x512 .f32 := fun i => Proj.cols 0 512 (by decide) (argsR m c) (i 0) (i 1) (i 2)
def res1 : FVec Ideal S16x4096x512 .f32 := fun i => Proj.cols 512 512 (by decide) (argsR m c) (i 0) (i 1) (i 2)
def res2 : FVec Ideal S16x4096x512 .f32 := fun i => Proj.cols 1024 512 (by decide) (argsR m c) (i 0) (i 1) (i 2)
def res3 : FVec Ideal S16x4096x512 .f32 := fun i => Proj.cols 1552 512 (by decide) (argsR m c) (i 0) (i 1) (i 2)

theorem res0_eq : uR (zM m c) = res0 m c := by
  refine funext fun i => (congrArg _ (ix3_eta i).symm).trans (Eq.trans ?_ (zM_apply m c (i 0) (i 1) ⟨0 + (i 2).val, by have := (i 2).isLt; dsimp at this; omega⟩))
  generalize zM m c = z
  exact uR_apply z (i 0) (i 1) (i 2)
theorem res1_eq : qkR (zM m c) = res1 m c := by
  refine funext fun i => (congrArg _ (ix3_eta i).symm).trans (Eq.trans ?_ (zM_apply m c (i 0) (i 1) ⟨512 + (i 2).val, by have := (i 2).isLt; dsimp at this; omega⟩))
  generalize zM m c = z
  exact qkR_apply z (i 0) (i 1) (i 2)
theorem res2_eq : vR (zM m c) = res2 m c := by
  refine funext fun i => (congrArg _ (ix3_eta i).symm).trans (Eq.trans ?_ (zM_apply m c (i 0) (i 1) ⟨1024 + (i 2).val, by have := (i 2).isLt; dsimp at this; omega⟩))
  generalize zM m c = z
  exact vR_apply z (i 0) (i 1) (i 2)
theorem res3_eq : rR (zM m c) = res3 m c := by
  refine funext fun i => (congrArg _ (ix3_eta i).symm).trans (Eq.trans ?_ (zM_apply m c (i 0) (i 1) ⟨1552 + (i 2).val, by have := (i 2).isLt; dsimp at this; omega⟩))
  generalize zM m c = z
  exact rR_apply z (i 0) (i 1) (i 2)

/-- The reference's run: its results, and its arguments unchanged, with every counter at zero. -/
theorem runR (ρ : Dev nD → PrngReg) : θ_run (defs (F := Ideal)) (onTc (τ := τ) (main (F := Ideal))) ⟨m, fun _ => 0, ρ⟩ (fun r =>
    (∀ c : Dev nD, r.2.mem ((c.tc : Thread nD τ).loc main_v22) = res0 m c
      ∧ r.2.mem ((c.tc : Thread nD τ).loc main_v23) = res1 m c
      ∧ r.2.mem ((c.tc : Thread nD τ).loc main_v24) = res2 m c
      ∧ r.2.mem ((c.tc : Thread nD τ).loc main_v26) = res3 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
    ∧ r.2.sem = fun _ => 0) :=
  (θ_run (defs (F := Ideal)) _ _).mono (fun r h => ⟨fun c => by
    obtain ⟨h0, h1, h2, h3, ha⟩ := h c
    exact ⟨h0.trans (res0_eq m c), h1.trans (res1_eq m c), h2.trans (res2_eq m c), h3.trans (res3_eq m c), ha⟩,
    sem_eq_zero_of_no_sems (by decide) _⟩) (run m ρ)

end Cert.Reference4Ideal.Value
end
-- ==== Proof.EvFinal.lean ====
module

public import proofs.«01_k».proof.Defs
public import proofs.«01_k».proof.Proof.EvBlocks
public import proofs.«01_k».proof.Proof.EvRef

/-!
# The input projection's kernel and its reference end with the same four results
-/

@[expose] public section

noncomputable section

namespace Cert.Ev

open Idealize.ShloMosaic Idealize.SL.Sem

/-- Memories agreeing on the arguments give the same arrays. -/
theorem args_eq (m : (ℓ : Loc Cert.Kernel4Ideal.nD Cert.Kernel4Ideal.τ Cert.Kernel4Ideal.sig) → Buf (Elt Ideal) ℓ)
    (m' : (ℓ : Loc Cert.Reference4Ideal.nD Cert.Reference4Ideal.τ Cert.Reference4Ideal.sig) → Buf (Elt Ideal) ℓ) (c : Dev Cert.Kernel4Ideal.nD)
    (h0 : m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0))
    (h1 : m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1))
    (h2 : m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2))
    (h3 : m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)) :
    Cert.Reference4Ideal.Value.argsR m' c = Cert.Kernel4Ideal.Value.argsK m c := by
  unfold Cert.Reference4Ideal.Value.argsR Cert.Kernel4Ideal.Value.argsK
  congr 1
  · funext b t k; exact congrFun h0 _
  · funext b j k; exact congrFun h1 _
  · funext k; exact congrFun h2 _
  · funext k n; exact congrFun h3 _

/-- The four results agree. -/
theorem algebraic : Cert.algebraic_Kernel4Ideal_Reference4Ideal := fun m ρ m' ρ' _ hag =>
  ⟨fun c => Cert.Reference4Ideal.Value.res0 m' c, fun c => Cert.Reference4Ideal.Value.res1 m' c, fun c => Cert.Reference4Ideal.Value.res2 m' c, fun c => Cert.Reference4Ideal.Value.res3 m' c,
    (θ_run _ _ _).mono (fun _ h c => by
      obtain ⟨a0, a1, a2, a3, -⟩ := hag c
      have e := args_eq m m' c a0 a1 a2 a3
      obtain ⟨h0, h1, h2, h3, -, ha⟩ := h c
      refine ⟨h0.trans ((Cert.Kernel4Ideal.Value.final6 m c).trans ?_), h1.trans ((Cert.Kernel4Ideal.Value.final7 m c).trans ?_),
        h2.trans ((Cert.Kernel4Ideal.Value.final8 m c).trans ?_), h3.trans ((Cert.Kernel4Ideal.Value.final9 m c).trans ?_), ha⟩
      all_goals rw [← e]; rfl) (Cert.Kernel4Ideal.Value.run_blocks m ρ),
    (θ_run _ _ _).mono (fun _ h => h.1) (Cert.Reference4Ideal.Value.runR m' ρ')⟩

end Cert.Ev
end
-- ==== Proof.Spec.lean ====
module

public import Idealize.ShloMosaic.PureOps.Ideal
public import Idealize.ShloMosaic.Lib.IdealHost

/-!
# The output projection and the feed-forward block over the extended reals

The two mixers' rows are projected and added to the tokens; the sum is normed, scaled and shifted, and multiplied by
the up weight; the products are convolved along the tokens, gated, and multiplied by the down weight. Both programs
are read as these functions.
-/

@[expose] public section

noncomputable section

namespace Cert.Ffn

open Idealize.ShloMosaic

/-- A row normed by its mean square, over the 1024 channels. -/
def nrm (x : Fin 1024 → EReal) (k : Fin 1024) : EReal :=
  x k * Ideal.rsqrt (Ideal.div (∑ j : Fin 1024, x j * x j) (Ideal.ofBits .f32 0x44800000#32) + Ideal.ofBits .f32 0x358637BD#32)

/-- `x` times its logistic. -/
def silu (x : EReal) : EReal := x * Ideal.logistic x

/-- The arrays of the call: tokens, modulation, the two mixers' rows, the output weight, the norm's scale, the up
weight, the convolution's weights and bias, the down weight, and the two stored rows before the first token. -/
structure Args where
  x : Fin 16 → Fin 4096 → Fin 1024 → EReal
  md : Fin 16 → Fin 6 → Fin 1024 → EReal
  m1 : Fin 16 → Fin 4096 → Fin 512 → EReal
  m2 : Fin 16 → Fin 4096 → Fin 512 → EReal
  wo : Fin 1024 → Fin 1024 → EReal
  ng : Fin 1024 → EReal
  wu : Fin 1024 → Fin 5632 → EReal
  cw : Fin 3 → Fin 5632 → EReal
  cb : Fin 5632 → EReal
  wd : Fin 2816 → Fin 1024 → EReal
  pre : Fin 16 → Fin 2 → Fin 5632 → EReal

variable (a : Args) (b : Fin 16) (t : Fin 4096)

/-- The tokens after the mixers. -/
def x1 (k : Fin 1024) : EReal :=
  a.x b t k + a.md b 2 k * (∑ i : Fin 512, a.m1 b t i * a.wo ⟨i.val, by omega⟩ k + ∑ i : Fin 512, a.m2 b t i * a.wo ⟨512 + i.val, by omega⟩ k)

/-- The normed and modulated row. -/
def hn (k : Fin 1024) : EReal := nrm (x1 a b t) k * a.ng k * (1 + a.md b 4 k) + a.md b 3 k

/-- The row times the up weight. -/
def u (n : Fin 5632) : EReal := ∑ k : Fin 1024, hn a b t k * a.wu k n

/-- The products with the two stored rows before them. -/
def ext (s : Fin 4098) (n : Fin 5632) : EReal := if h : s.val < 2 then a.pre b ⟨s.val, h⟩ n else u a b ⟨s.val - 2, by omega⟩ n

/-- The convolution along the tokens. -/
def conv (n : Fin 5632) : EReal :=
  a.cb n + ext a b ⟨t.val, by omega⟩ n * a.cw 0 n + ext a b ⟨1 + t.val, by omega⟩ n * a.cw 1 n + ext a b ⟨2 + t.val, by omega⟩ n * a.cw 2 n

/-- The gated channels. -/
def h (i : Fin 2816) : EReal := silu (conv a b t ⟨i.val, by omega⟩) * conv a b t ⟨2816 + i.val, by omega⟩

/-- The tokens after the block. -/
def y (k : Fin 1024) : EReal := x1 a b t k + a.md b 5 k * ∑ i : Fin 2816, h a b t i * a.wd i k

/-- The products' last eight rows, by halves and by blocks of 256 columns. -/
def last (p : Fin 2) (j : Fin 11) (r : Fin 8) (l : Fin 256) : EReal := u a b ⟨4088 + r.val, by omega⟩ ⟨p.val * 2816 + j.val * 256 + l.val, by omega⟩

/-- The batch of point `t` of 128. -/
abbrev batch (t : Fin 128) : Fin 16 := ⟨t.val / 8, by omega⟩
/-- Token `l` of the tile of point `t`. -/
abbrev tok (t : Fin 128) (l : Fin 512) : Fin 4096 := ⟨512 * (t.val % 8) + l.val, by omega⟩
/-- Column `l` of block `j` of half `s`. -/
abbrev col (s : Fin 2) (j : Fin 11) (l : Fin 256) : Fin 5632 := ⟨2816 * s.val + 256 * j.val + l.val, by omega⟩

/-- The gelu of `y`, by the hyperbolic tangent. -/
def gelu (y : EReal) : EReal :=
  y * (Ideal.ofBits .f32 0x3F000000#32 * (1 + Ideal.tanh (Ideal.ofBits .f32 0x3F4C422A#32 * (y + Ideal.ofBits .f32 0x3D372713#32 * (y * (y * y))))))

/-- The first layer's first mixer, at channel `k` of a token: its rows `m` and its inputs `u` by the skip weight, their
gelu, and the gate of it. -/
def mix (m u d : Fin 512 → EReal) (w : Fin 512 → Fin 512 → EReal) (b : Fin 512 → EReal) (k : Fin 512) : EReal :=
  gelu (m k + d k * u k) * Ideal.logistic (∑ i : Fin 512, gelu (m i + d i * u i) * w i k + b k)

/-- A sum over 1024 is two sums over 512. -/
theorem sum_halves (f : Fin 1024 → EReal) : ∑ i : Fin 1024, f i = ∑ i : Fin 512, f ⟨i.val, by omega⟩ + ∑ i : Fin 512, f ⟨512 + i.val, by omega⟩ :=
  Fin.sum_univ_add (a := 512) (b := 512) f

end Cert.Ffn
end
-- ==== Proof.Blocks.lean ====
module

public import proofs.«01_k».proof.Proof.Gen.KernelIdeal.Value
public import proofs.«01_k».proof.Proof.Spec
public import Idealize.ShloMosaic.Lib.Pointwise
public import Idealize.ShloMosaic.Lib.Claim
public import Idealize.ShloMosaic.Lib.StableHlo.ReadAt
public import Idealize.ShloMosaic.Lib.Pipeline.ValueKit

/-!
# The blocks a grid point reads

Point `t` works on batch `t / 8` and on the 512 tokens of tile `t % 8`; its input blocks are read off the
arguments. The up weight, the convolution's weights and its bias come by halves and by blocks of 256 columns; the two
stored rows come as the last two of eight.
-/

@[expose] public section

set_option maxRecDepth 16384

noncomputable section

namespace Cert.KernelIdeal.Value

open Cert.KernelIdeal Cert.KernelIdeal.Gen Idealize.ShloMosaic Idealize.ShloMosaic.TcCoe Idealize.SL.Sem
open Cert.Ffn (col)

variable (m : (ℓ : Loc nD τ sig) → Buf (Elt Ideal) ℓ) (c : Dev nD)

/-- Where the blocks that move lie. -/
theorem idx : ∀ t : Fin cfg0.N, win0_0.index t = ![t.val / 8, t.val % 8, 0] ∧ win0_1.index t = ![t.val / 8, 0, 0]
    ∧ win0_2.index t = ![t.val / 8, t.val % 8, 0] ∧ win0_3.index t = ![t.val / 8, t.val % 8, 0] ∧ win0_13.index t = ![t.val / 8, 0, 0, 0, 0] :=
  (by decide +kernel : ∀ t : Fin grid0.N, _)
/-- The blocks that stay. -/
theorem idxW : ∀ t : Fin cfg0.N, win0_4.index t = ![0, 0] ∧ win0_5.index t = ![0, 0] ∧ win0_6.index t = ![0, 0, 0] ∧ win0_7.index t = ![0, 0, 0]
    ∧ win0_8.index t = ![0, 0, 0] ∧ win0_9.index t = ![0, 0, 0] ∧ win0_10.index t = ![0, 0, 0] ∧ win0_11.index t = ![0, 0, 0] ∧ win0_12.index t = ![0, 0] :=
  (by decide +kernel : ∀ t : Fin grid0.N, _)

/-- There are 128 points. -/
theorem lt128 (t : Fin cfg0.N) : t.val < 128 := lt_of_lt_of_eq t.isLt (show cfg0.N = 128 from N_0)

/-- The arguments as the functions that the calculation takes. -/
def argsK : Ffn.Args where
  x b t k := m ((c : Thread nD τ).loc main_arg0) (ix3 b t k)
  md b i k := m ((c : Thread nD τ).loc main_arg1) (ix3 b i k)
  m1 b t k := m ((c : Thread nD τ).loc main_arg2) (ix3 b t k)
  m2 b t k := m ((c : Thread nD τ).loc main_arg3) (ix3 b t k)
  wo i k := m ((c : Thread nD τ).loc main_arg4) (ix2 i k)
  ng k := m ((c : Thread nD τ).loc main_arg5) (ix1 k)
  wu k n := m ((c : Thread nD τ).loc main_arg6) (ix2 k n)
  cw i n := m ((c : Thread nD τ).loc main_arg7) (ix2 i n)
  cb n := m ((c : Thread nD τ).loc main_arg8) (ix1 n)
  wd i k := m ((c : Thread nD τ).loc main_arg9) (ix2 i k)
  pre b i n := m ((c : Thread nD τ).loc main_arg10) (ix3 b i n)

/-- The batch of point `t`. -/
abbrev batchK (t : Fin cfg0.N) : Fin 16 := ⟨t.val / 8, by have := lt128 t; omega⟩
/-- Token `l` of the tile of point `t`. -/
abbrev tokK (t : Fin cfg0.N) (l : Fin 512) : Fin 4096 := ⟨512 * (t.val % 8) + l.val, by omega⟩

/-! Each block at an index. -/

/-- The tile's tokens. -/
theorem iblk0 (t : Fin cfg0.N) (l : Fin 512) (k : Fin 1024) : (iblk m c 0 t : Vec Ideal S1x512x1024 .f32) (ix3 0 l k) = (argsK m c).x (batchK t) (tokK t l) k := by
  have e := (idx t).1
  unfold argsK
  dsimp only
  blk_ext [iblk, V_main_arg0, e]
/-- The batch's modulation. -/
theorem iblk1 (t : Fin cfg0.N) (i : Fin 6) (k : Fin 1024) : (iblk m c 1 t : Vec Ideal S1x6x1024 .f32) (ix3 0 i k) = (argsK m c).md (batchK t) i k := by
  have e := (idx t).2.1
  unfold argsK
  dsimp only
  blk_ext [iblk, V_main_arg1, e]
/-- The first mixer's rows. -/
theorem iblk2 (t : Fin cfg0.N) (l k : Fin 512) : (iblk m c 2 t : Vec Ideal S1x512x512 .f32) (ix3 0 l k) = (argsK m c).m1 (batchK t) (tokK t l) k := by
  have e := (idx t).2.2.1
  unfold argsK
  dsimp only
  blk_ext [iblk, V_main_arg2, e]
/-- The second mixer's rows. -/
theorem iblk3 (t : Fin cfg0.N) (l k : Fin 512) : (iblk m c 3 t : Vec Ideal S1x512x512 .f32) (ix3 0 l k) = (argsK m c).m2 (batchK t) (tokK t l) k := by
  have e := (idx t).2.2.2.1
  unfold argsK
  dsimp only
  blk_ext [iblk, V_main_arg3, e]
/-- The output weight. -/
theorem iblk4 (t : Fin cfg0.N) (i k : Fin 1024) : (iblk m c 4 t : Vec Ideal S1024x1024 .bf16) (ix2 i k) = (argsK m c).wo i k := by
  have e := (idxW t).1
  unfold argsK
  dsimp only
  blk_point [iblk, V, e]
/-- The norm's scale. -/
theorem iblk5 (t : Fin cfg0.N) (k : Fin 1024) : (iblk m c 5 t : Vec Ideal S1x1024 .f32) (ix2 0 k) = (argsK m c).ng k := by
  have e := (idxW t).2.1
  unfold argsK
  dsimp only
  blk_point [iblk, V, e]
/-- The down weight. -/
theorem iblk12 (t : Fin cfg0.N) (i : Fin 2816) (k : Fin 1024) : (iblk m c 12 t : Vec Ideal S2816x1024 .bf16) (ix2 i k) = (argsK m c).wd i k := by
  have e := (idxW t).2.2.2.2.2.2.2.2
  unfold argsK
  dsimp only
  blk_point [iblk, V, e]
/-- The first half of the up weight. -/
theorem iblk6 (t : Fin cfg0.N) (j : Fin 11) (k : Fin 1024) (l : Fin 256) : (iblk m c 6 t : Vec Ideal S11x1024x256 .bf16) (ix3 j k l) = (argsK m c).wu k (col 0 j l) := by
  have e := (idxW t).2.2.1
  unfold argsK
  dsimp only
  blk_point [iblk, V, e]
/-- The second half of the up weight. -/
theorem iblk7 (t : Fin cfg0.N) (j : Fin 11) (k : Fin 1024) (l : Fin 256) : (iblk m c 7 t : Vec Ideal S11x1024x256 .bf16) (ix3 j k l) = (argsK m c).wu k (col 1 j l) := by
  have e := (idxW t).2.2.2.1
  unfold argsK
  dsimp only
  blk_point [iblk, V, e]
/-- The first half of the convolution's weights. -/
theorem iblk8 (t : Fin cfg0.N) (j : Fin 11) (i : Fin 3) (l : Fin 256) : (iblk m c 8 t : Vec Ideal S11x3x256 .f32) (ix3 j i l) = (argsK m c).cw i (col 0 j l) := by
  have e := (idxW t).2.2.2.2.1
  unfold argsK
  dsimp only
  blk_point [iblk, V, e]
/-- The second half of the convolution's weights. -/
theorem iblk9 (t : Fin cfg0.N) (j : Fin 11) (i : Fin 3) (l : Fin 256) : (iblk m c 9 t : Vec Ideal S11x3x256 .f32) (ix3 j i l) = (argsK m c).cw i (col 1 j l) := by
  have e := (idxW t).2.2.2.2.2.1
  unfold argsK
  dsimp only
  blk_point [iblk, V, e]
/-- The bias by halves and blocks. -/
theorem V_cb (s : Fin 2) (j : Fin 11) (l : Fin 256) : (V m c main_v7 : Vec Ideal S2x11x1x256 .f32) (ix4 s j 0 l) = m ((c : Thread nD τ).loc main_arg8) (ix1 (col s j l)) := by
  after_reads_at
  exact congrArg (m ((c : Thread nD τ).loc main_arg8)) (congrArg ix1 (Fin.ext (by show s.val * 2816 + j.val * 256 + l.val = 2816 * s.val + 256 * j.val + l.val; omega)))
/-- The first half of the bias. -/
theorem iblk10 (t : Fin cfg0.N) (j : Fin 11) (l : Fin 256) : (iblk m c 10 t : Vec Ideal S11x1x256 .f32) (ix3 j 0 l) = (argsK m c).cb (col 0 j l) := by
  have e := (idxW t).2.2.2.2.2.2.1
  unfold argsK
  dsimp only
  have e1 : (V m c main_v24 : Vec Ideal S11x1x256 .f32) = shapeCast S11x1x256 (extractStridedSlice S1x11x1x256 ![0, 0, 0, 0] (V m c main_v7 : Vec Ideal S2x11x1x256 .f32) slices_S2x11x1x256_S1x11x1x256_0_0_0_0) shapeCasts_S1x11x1x256_S11x1x256 := by
    after_reads_simp
    rfl
  have e2 : (V m c main_v24 : Vec Ideal S11x1x256 .f32) (ix3 j 0 l) = (V m c main_v7 : Vec Ideal S2x11x1x256 .f32) (ix4 0 j 0 l) := by
    rw [e1]
    generalize V m c main_v7 = w
    pointwise
  refine Eq.trans ?_ (e2.trans (V_cb m c 0 j l))
  blk_ext [iblk, e]
/-- The second half of the bias. -/
theorem iblk11 (t : Fin cfg0.N) (j : Fin 11) (l : Fin 256) : (iblk m c 11 t : Vec Ideal S11x1x256 .f32) (ix3 j 0 l) = (argsK m c).cb (col 1 j l) := by
  have e := (idxW t).2.2.2.2.2.2.2.1
  unfold argsK
  dsimp only
  have e1 : (V m c main_v26 : Vec Ideal S11x1x256 .f32) = shapeCast S11x1x256 (extractStridedSlice S1x11x1x256 ![1, 0, 0, 0] (V m c main_v7 : Vec Ideal S2x11x1x256 .f32) slices_S2x11x1x256_S1x11x1x256_1_0_0_0) shapeCasts_S1x11x1x256_S11x1x256 := by
    after_reads_simp
    rfl
  have e2 : (V m c main_v26 : Vec Ideal S11x1x256 .f32) (ix3 j 0 l) = (V m c main_v7 : Vec Ideal S2x11x1x256 .f32) (ix4 1 j 0 l) := by
    rw [e1]
    generalize V m c main_v7 = w
    pointwise
  refine Eq.trans ?_ (e2.trans (V_cb m c 1 j l))
  blk_ext [iblk, e]
/-- The stored rows. -/
theorem iblk13 (t : Fin cfg0.N) (s : Fin 2) (j : Fin 11) (r : Fin 2) (l : Fin 256) :
    (iblk m c 13 t : Vec Ideal S1x2x11x8x256 .f32) (ix5 0 s j ⟨6 + r.val, by omega⟩ l) = (argsK m c).pre (batchK t) r (col s j l) := by
  have e := (idx t).2.2.2.2
  unfold argsK
  dsimp only
  have e2 : ∀ b : Fin 16, (V m c main_v12 : Vec Ideal S16x2x11x8x256 .f32) (ix5 b s j ⟨6 + r.val, by omega⟩ l) = m ((c : Thread nD τ).loc main_arg10) (ix3 b r (col s j l)) := by
    intro b
    have e3 : StableHlo.upto hostOps0 (fun b => m (c, b)) 11 (Proc.devRef .tc main_arg10) = m ((c : Thread nD τ).loc main_arg10) := by
      after_reads_simp
    after_reads_at
    refine (congrFun e3 _).trans ?_
    exact congrArg (fun n => m ((c : Thread nD τ).loc main_arg10) (ix3 b r n)) (Fin.ext (by show s.val * 2816 + j.val * 256 + l.val = 2816 * s.val + 256 * j.val + l.val; omega))
  refine Eq.trans ?_ (e2 (batchK t))
  blk_ext [iblk, e]

end Cert.KernelIdeal.Value
end
-- ==== Proof.Body.lean ====
module

public import proofs.«01_k».proof.Proof.Gen.KernelIdeal.Value

/-!
# One grid point, as functions of its blocks

Both calls share the steps after the mixers. Over a tile of 512 tokens: the projected and normed rows, their products with each block of 256 columns of the up
weight, the convolution of each, the gated channels, and the stores of the point.
-/

@[expose] public section

set_option maxRecDepth 16384

noncomputable section

namespace Cert.KernelIdeal.Value

open Cert.KernelIdeal Cert.KernelIdeal.Gen Idealize.ShloMosaic Idealize.ShloMosaic.TcCoe Idealize.SL.Sem

variable {F : FTy → Type} [FloatOps F]

/-- What a point computes from: its tokens after the mixers, their normed and modulated rows, the modulation and the
blocks of the weights. -/
structure Ins (F : FTy → Type) [FloatOps F] where
  xm : FVec F S512x1024 .f32
  hn : FVec F S512x1024 .bf16
  md : Vec F S1x6x1024 .f32
  x6 : Vec F S11x1024x256 .bf16
  x7 : Vec F S11x1024x256 .bf16
  x8 : Vec F S11x3x256 .f32
  x9 : Vec F S11x3x256 .f32
  x10 : Vec F S11x1x256 .f32
  x11 : Vec F S11x1x256 .f32
  x12 : Vec F S2816x1024 .bf16

/-- The two halves of the output weight. -/
def woK (w : Vec F S1024x1024 .bf16) (o : ℕ) (h : ∀ a, ![o, 0] a + S512x1024.size a ≤ S1024x1024.size a) : Vec F S512x1024 .bf16 := View.ld w (Rect.unit (s := S1024x1024) ![o, 0] S512x1024.size h)

section
variable (x0 : Vec F S1x512x1024 .f32) (x1 : Vec F S1x6x1024 .f32) (x2 x3 : Vec F S1x512x512 .f32) (x4 : Vec F S1024x1024 .bf16) (x5 : Vec F S1x1024 .f32)
/-- The tokens after the mixers. -/
def x1K : FVec F S512x1024 .f32 := k0_pay5 x1 x2 (woK x4 0 inb_S1024x1024_S512x1024_0_0) x3 (woK x4 512 inb_S1024x1024_S512x1024_512_0) x0
/-- The normed and modulated rows. -/
def hnK : FVec F S512x1024 .bf16 :=
  k0_pay10 (x1K x0 x1 x2 x3 x4) (k0_pay6 x5) (k0_pay7 x1) (k0_pay8 x1)
    (k0_pay9 x1 x2 (woK x4 0 inb_S1024x1024_S512x1024_0_0) x3 (woK x4 512 inb_S1024x1024_S512x1024_512_0) x0)
/-- A point of the first call, from its blocks. -/
def insOf (x6 x7 : Vec F S11x1024x256 .bf16) (x8 x9 : Vec F S11x3x256 .f32) (x10 x11 : Vec F S11x1x256 .f32) (x12 : Vec F S2816x1024 .bf16) : Ins F :=
  ⟨x1K x0 x1 x2 x3 x4, hnK x0 x1 x2 x3 x4 x5, x1, x6, x7, x8, x9, x10, x11, x12⟩
end

variable (I : Ins F) (cr : Vec F S2x11x8x256 .f32)

/-- Each block of the up weight lies in its half. -/
theorem inbW (j : Fin 11) : ∀ a, ![j.val, 0, 0] a + S1x1024x256.size a ≤ S11x1024x256.size a := by revert j; decide
/-- Each block of the convolution's weights lies in its half. -/
theorem inbC (j : Fin 11) : ∀ a, ![j.val, 0, 0] a + S1x3x256.size a ≤ S11x3x256.size a := by revert j; decide
/-- Each block of the bias lies in its half. -/
theorem inbB (j : Fin 11) : ∀ a, ![j.val, 0, 0] a + S1x1x256.size a ≤ S11x1x256.size a := by revert j; decide
/-- Each place of carried rows lies in the scratch. -/
theorem inbP (s : Fin 2) (j : Fin 11) : ∀ a, ![s.val, j.val, 0, 0] a + S1x1x8x256.size a ≤ S2x11x8x256.size a := by revert s j; decide
/-- Each block of gated channels lies in its scratch. -/
theorem inbH (j : Fin 11) : ∀ a, ![0, 256 * j.val] a + S512x256.size a ≤ S512x2816.size a := by revert j; decide

/-- The rows times block `j` of one half of the up weight. -/
def uK (w : Vec F S11x1024x256 .bf16) (j : Fin 11) : FVec F S512x256 .f32 := k0_pay26 I.hn (View.ld w (Rect.unit (s := S11x1024x256) ![j.val, 0, 0] S1x1024x256.size (inbW j)))
/-- The place of the carried rows of half `s`, block `j`. -/
abbrev rP (s : Fin 2) (j : Fin 11) : Rect S2x11x8x256 := Rect.unit (s := S2x11x8x256) ![s.val, j.val, 0, 0] S1x1x8x256.size (inbP s j)
/-- The convolution of one half's block `j`, after the carried rows. -/
def convK (s : Fin 2) (w : Vec F S11x1024x256 .bf16) (cw : Vec F S11x3x256 .f32) (cb : Vec F S11x1x256 .f32) (j : Fin 11) : FVec F S512x256 .f32 :=
  k0_pay18 (uK I w j) (k0_pay15 (View.ld cr (rP s j))) (k0_pay16 (View.ld cw (Rect.unit (s := S11x3x256) ![j.val, 0, 0] S1x3x256.size (inbC j))))
    (k0_pay17 (View.ld cb (Rect.unit (s := S11x1x256) ![j.val, 0, 0] S1x1x256.size (inbB j))))
/-- The gated channels of block `j`. -/
def hK (j : Fin 11) : FVec F S512x256 .bf16 :=
  k0_pay25 (truncf .bf16 (mulf (mulf (convK I cr 0 I.x6 I.x8 I.x10 j) (logistic (convK I cr 0 I.x6 I.x8 I.x10 j))) (convK I cr 1 I.x7 I.x9 I.x11 j)) bitsLt_bf16_f32)
/-- Block `j`'s store of the gated channels. -/
def pieceH (j : Fin 11) : View.Piece (Elt F) S512x2816 .bf16 := ⟨Rect.unit (s := S512x2816) ![0, 256 * j.val] S512x256.size (inbH j), hK I cr j⟩
/-- The point's stores of the gated channels, last first. -/
def piecesH : List (View.Piece (Elt F) S512x2816 .bf16) := [10, 9, 8, 7, 6, 5, 4, 3, 2, 1, 0].map (pieceH I cr)
/-- The rows block `j` of half `s` hands to the next point. -/
def pieceU (p : Fin 11 × Fin 2) : View.Piece (Elt F) S2x11x8x256 .f32 := ⟨rP p.2 p.1, k0_pay22 (uK I (if p.2 = 0 then I.x6 else I.x7) p.1)⟩
/-- The point's stores of those rows, last first. -/
def piecesU : List (View.Piece (Elt F) S2x11x8x256 .f32) :=
  [((10 : Fin 11), (1 : Fin 2)), (10, 0), (9, 1), (9, 0), (8, 1), (8, 0), (7, 1), (7, 0), (6, 1), (6, 0), (5, 1), (5, 0), (4, 1), (4, 0), (3, 1), (3, 0), (2, 1), (2, 0), (1, 1), (1, 0), (0, 1), (0, 0)].map (pieceU I)
/-- The point's block of the first result. -/
def outK : FVec F S1x512x1024 .f32 :=
  k0_pay1 (k0_pay4 I.md) I.xm (View.canon (piecesH I cr)) (shapeCast S2816x1024 I.x12 shapeCasts_S2816x1024_S2816x1024) (constant S512x1024 .f32 0x00000000#32)

/-- No offset, in two axes. -/
theorem hz2 : (![0, 0] : Fin 2 → Nat) = fun _ => 0 := funext fun a => by fin_cases a <;> rfl
/-- No offset, in four axes. -/
theorem hz4 : (![0, 0, 0, 0] : Fin 4 → Nat) = fun _ => 0 := funext fun a => by fin_cases a <;> rfl
/-- No offset, in five axes. -/
theorem hz5 : (![0, 0, 0, 0, 0] : Fin 5 → Nat) = fun _ => 0 := funext fun a => by fin_cases a <;> rfl
/-- No offset, in three axes. -/
theorem hz3 : (![0, 0, 0] : Fin 3 → Nat) = fun _ => 0 := funext fun a => by fin_cases a <;> rfl

/-- Reading the gated channels whole gives all their stores. -/
theorem readCov_h {sg : RefSig} {sp : Space} (v : View sg .tc sp S512x2816 .bf16) (inb : ∀ a, ![0, 0] a + S512x2816.size a ≤ S512x2816.size a)
    (L : List (View.Piece (Elt F) S512x2816 .bf16)) :
    v.readCov L (Rect.unit (s := S512x2816) ![0, 0] ![512, 2816] inb).toLoadRect = View.canon L := by
  rw [View.readCov_eq_canon']
  exact View.ld_unit_zero (S := S512x2816) hz2 inb (View.canon L)

/-- Reading the carried rows whole gives all their stores. -/
theorem readCov_c {sg : RefSig} {sp : Space} (v : View sg .tc sp S2x11x8x256 .f32) (inb : ∀ a, ![0, 0, 0, 0] a + S2x11x8x256.size a ≤ S2x11x8x256.size a)
    (L : List (View.Piece (Elt F) S2x11x8x256 .f32)) :
    v.readCov L (Rect.unit (s := S2x11x8x256) ![0, 0, 0, 0] ![2, 11, 8, 256] inb).toLoadRect = View.canon L := by
  rw [View.readCov_eq_canon']
  exact View.ld_unit_zero (S := S2x11x8x256) hz4 inb (View.canon L)

/-- A load of one block's carried rows does not see another block's store. -/
theorem readCov_skip {sg : RefSig} {sp : Space} (v : View sg .tc sp S2x11x8x256 .f32) (s j s' j' : ℕ)
    (inb : ∀ a, ![s, j, 0, 0] a + S1x1x8x256.size a ≤ S2x11x8x256.size a) (inb' : ∀ a, ![s', j', 0, 0] a + S1x1x8x256.size a ≤ S2x11x8x256.size a)
    (w : Vec F S1x1x8x256 .f32) (L : List (View.Piece (Elt F) S2x11x8x256 .f32)) (h : s' = s → j' = j → False) :
    v.readCov (⟨Rect.unit (s := S2x11x8x256) ![s', j', 0, 0] ![1, 1, 8, 256] inb', w⟩ :: L) (Rect.unit (s := S2x11x8x256) ![s, j, 0, 0] ![1, 1, 8, 256] inb).toLoadRect
      = v.readCov L (Rect.unit (s := S2x11x8x256) ![s, j, 0, 0] ![1, 1, 8, 256] inb).toLoadRect := by
  rw [View.readCov_eq_canon', View.readCov_eq_canon']
  refine funext fun z => View.canon_cons_of_not_mem _ _ fun hm => ?_
  have hm := (Rect.mem_set_unit (s := S2x11x8x256) (inb := inb')).mp hm
  have p0 : 0 < 4 := by decide
  have p1 : 1 < 4 := by decide
  have h0 := hm ⟨0, p0⟩
  have h1 := hm ⟨1, p1⟩
  have z0 : (z ⟨0, p0⟩).val < 1 := (z ⟨0, p0⟩).isLt
  have z1 : (z ⟨1, p1⟩).val < 1 := (z ⟨1, p1⟩).isLt
  have h0 : s' ≤ s + 1 * (z ⟨0, p0⟩).val ∧ s + 1 * (z ⟨0, p0⟩).val < s' + 1 := h0
  have h1 : j' ≤ j + 1 * (z ⟨1, p1⟩).val ∧ j + 1 * (z ⟨1, p1⟩).val < j' + 1 := h1
  exact h (by omega) (by omega)

/-- A load of a block's carried rows after the whole buffer was written. -/
theorem readCov_part {sg : RefSig} {sp : Space} (v : View sg .tc sp S2x11x8x256 .f32) (inb : ∀ a, ![0, 0, 0, 0] a + S2x11x8x256.size a ≤ S2x11x8x256.size a)
    (w : Vec F S2x11x8x256 .f32) (r : Rect S2x11x8x256) :
    v.readCov [⟨Rect.unit (s := S2x11x8x256) ![0, 0, 0, 0] ![2, 11, 8, 256] inb, w⟩] r.toLoadRect = View.ld w r := by
  rw [View.readCov_eq_canon']
  show View.ld (View.canon _) r = _
  exact congrArg (View.ld · r) (View.canon_cons_unit_zero (S := S2x11x8x256) hz4 inb w [])

end Cert.KernelIdeal.Value
end
-- ==== Proof.Pay.lean ====
module

public import proofs.«01_k».proof.Proof.Spec
public import proofs.«01_k».proof.Proof.Body
public import Idealize.ShloMosaic.Lib.Pointwise
public import Idealize.ShloMosaic.Lib.Pipeline.CanonAppend

/-!
# A grid point's functions over the extended reals, at an index
-/

@[expose] public section

set_option maxRecDepth 16384

noncomputable section

namespace Cert.KernelIdeal.Value

open Cert.KernelIdeal Cert.KernelIdeal.Gen Idealize.ShloMosaic Idealize.ShloMosaic.TcCoe Idealize.SL.Sem

variable (I : Ins Ideal) (cr : Vec Ideal S2x11x8x256 .f32)

/-- A half of the output weight, at an index. -/
theorem ld_wo (w : Vec Ideal S1024x1024 .bf16) (o : ℕ) (h : ∀ a, ![o, 0] a + S512x1024.size a ≤ S1024x1024.size a) (i : Fin 512) (k : Fin 1024) (ho : o + i.val < 1024) :
    woK w o h (ix2 i k) = w (ix2 ⟨o + i.val, ho⟩ k) :=
  congrArg w (funext fun a => match a with
    | ⟨0, _⟩ => Fin.ext (by show o + 1 * i.val = o + i.val; omega)
    | ⟨1, _⟩ => Fin.ext (by show 0 + 1 * k.val = k.val; omega))

/-- A block of the up weight, at an index. -/
theorem ld_w (w : Vec Ideal S11x1024x256 .bf16) (j : Fin 11) (k : Fin 1024) (l : Fin 256) :
    View.ld w (Rect.unit (s := S11x1024x256) ![j.val, 0, 0] S1x1024x256.size (inbW j)) (ix3 0 k l) = w (ix3 j k l) :=
  congrArg w (funext fun a => match a with
    | ⟨0, _⟩ => Fin.ext (by show j.val + 1 * 0 = j.val; omega)
    | ⟨1, _⟩ => Fin.ext (by show 0 + 1 * k.val = k.val; omega)
    | ⟨2, _⟩ => Fin.ext (by show 0 + 1 * l.val = l.val; omega))

/-- A block of the convolution's weights, at an index. -/
theorem ld_cw (w : Vec Ideal S11x3x256 .f32) (j : Fin 11) (k : Fin 3) (l : Fin 256) :
    View.ld w (Rect.unit (s := S11x3x256) ![j.val, 0, 0] S1x3x256.size (inbC j)) (ix3 0 k l) = w (ix3 j k l) :=
  congrArg w (funext fun a => match a with
    | ⟨0, _⟩ => Fin.ext (by show j.val + 1 * 0 = j.val; omega)
    | ⟨1, _⟩ => Fin.ext (by show 0 + 1 * k.val = k.val; omega)
    | ⟨2, _⟩ => Fin.ext (by show 0 + 1 * l.val = l.val; omega))

/-- A block of the bias, at an index. -/
theorem ld_cb (w : Vec Ideal S11x1x256 .f32) (j : Fin 11) (l : Fin 256) :
    View.ld w (Rect.unit (s := S11x1x256) ![j.val, 0, 0] S1x1x256.size (inbB j)) (ix3 0 0 l) = w (ix3 j 0 l) :=
  congrArg w (funext fun a => match a with
    | ⟨0, _⟩ => Fin.ext (by show j.val + 1 * 0 = j.val; omega)
    | ⟨1, _⟩ => rfl
    | ⟨2, _⟩ => Fin.ext (by show 0 + 1 * l.val = l.val; omega))

/-- A block of the carried rows, at an index. -/
theorem ld_cr (s : Fin 2) (j : Fin 11) (r : Fin 8) (l : Fin 256) : View.ld cr (rP s j) (ix4 0 0 r l) = cr (ix4 s j r l) :=
  congrArg cr (funext fun a => match a with
    | ⟨0, _⟩ => Fin.ext (by show s.val + 1 * 0 = s.val; omega)
    | ⟨1, _⟩ => Fin.ext (by show j.val + 1 * 0 = j.val; omega)
    | ⟨2, _⟩ => Fin.ext (by show 0 + 1 * r.val = r.val; omega)
    | ⟨3, _⟩ => Fin.ext (by show 0 + 1 * l.val = l.val; omega))

/-- The projected rows added to the tokens, at an index. -/
theorem pay5_apply (md : Vec Ideal S1x6x1024 .f32) (m1 : Vec Ideal S1x512x512 .f32) (w1 : Vec Ideal S512x1024 .bf16) (m2 : Vec Ideal S1x512x512 .f32)
    (w2 : Vec Ideal S512x1024 .bf16) (x : Vec Ideal S1x512x1024 .f32) (r : Fin 512) (k : Fin 1024) :
    (k0_pay5 md m1 w1 m2 w2 x (ix2 r k) : EReal) = x (ix3 0 r k) + md (ix3 0 2 k) * (∑ i : Fin 512, (m1 (ix3 0 r i) * w1 (ix2 i k) : EReal) + ∑ i : Fin 512, (m2 (ix3 0 r i) * w2 (ix2 i k) : EReal)) := by
  pointwise [k0_pay5, k0_pay4]

/-- The two halves of the output weight, at an index. -/
theorem wo_apply (w : Vec Ideal S1024x1024 .bf16) (i : Fin 512) (k : Fin 1024) :
    woK w 0 inb_S1024x1024_S512x1024_0_0 (ix2 i k) = w (ix2 ⟨i.val, by omega⟩ k) ∧ woK w 512 inb_S1024x1024_S512x1024_512_0 (ix2 i k) = w (ix2 ⟨512 + i.val, by omega⟩ k) :=
  ⟨(ld_wo w 0 _ i k (by omega)).trans (congrArg (fun i => w (ix2 i k)) (Fin.ext (Nat.zero_add _))), ld_wo w 512 _ i k (by omega)⟩

section
variable (x0 : Vec Ideal S1x512x1024 .f32) (x1 : Vec Ideal S1x6x1024 .f32) (x2 x3 : Vec Ideal S1x512x512 .f32) (x4 : Vec Ideal S1024x1024 .bf16) (x5 : Vec Ideal S1x1024 .f32)

/-- A token after the mixers. -/
theorem x1K_apply (r : Fin 512) (k : Fin 1024) :
    (x1K x0 x1 x2 x3 x4 (ix2 r k) : EReal) = x0 (ix3 0 r k) + x1 (ix3 0 2 k) * (∑ i : Fin 512, (x2 (ix3 0 r i) * x4 (ix2 ⟨i.val, by omega⟩ k) : EReal)
      + ∑ i : Fin 512, (x3 (ix3 0 r i) * x4 (ix2 ⟨512 + i.val, by omega⟩ k) : EReal)) := by
  unfold x1K
  rw [pay5_apply]
  have e := fun i => (wo_apply x4 i k).1
  have e' := fun i => (wo_apply x4 i k).2
  simp only [e, e']
end

/-- The norm and the modulation, at an index. -/
theorem pay10_apply (x : FVec Ideal S512x1024 .f32) (g s h : FVec Ideal S1x1024 .f32) (q : FVec Ideal S512x1 .f32) (r : Fin 512) (k : Fin 1024) :
    (k0_pay10 x g s h q (ix2 r k) : EReal) = x (ix2 r k) * Ideal.rsqrt (q (ix2 r 0) + Ideal.ofBits .f32 0x358637BD#32) * g (ix2 0 k) * (1 + s (ix2 0 k)) + h (ix2 0 k) := by
  pointwise [k0_pay10]

/-- The mean square of a row. -/
theorem pay9_apply (md : Vec Ideal S1x6x1024 .f32) (m1 : Vec Ideal S1x512x512 .f32) (w1 : Vec Ideal S512x1024 .bf16) (m2 : Vec Ideal S1x512x512 .f32)
    (w2 : Vec Ideal S512x1024 .bf16) (x : Vec Ideal S1x512x1024 .f32) (r : Fin 512) :
    (k0_pay9 md m1 w1 m2 w2 x (ix2 r 0) : EReal) = Ideal.div (∑ k : Fin 1024, (k0_pay5 md m1 w1 m2 w2 x (ix2 r k) * k0_pay5 md m1 w1 m2 w2 x (ix2 r k) : EReal)) (Ideal.ofBits .f32 0x44800000#32) := by
  unfold k0_pay9
  generalize k0_pay5 md m1 w1 m2 w2 x = y
  pointwise

/-- The norm's scale and the two modulation rows, at an index. -/
theorem pay678_apply (g : Vec Ideal S1x1024 .f32) (md : Vec Ideal S1x6x1024 .f32) (k : Fin 1024) :
    k0_pay6 g (ix2 0 k) = g (ix2 0 k) ∧ k0_pay7 md (ix2 0 k) = md (ix3 0 4 k) ∧ k0_pay8 md (ix2 0 k) = md (ix3 0 3 k) := by
  refine ⟨?_, ?_, ?_⟩
  · pointwise [k0_pay6]
  · pointwise [k0_pay7, k0_pay4]
  · pointwise [k0_pay8, k0_pay4]

/-- A normed and modulated row. -/
theorem hnK_apply (x0 : Vec Ideal S1x512x1024 .f32) (x1 : Vec Ideal S1x6x1024 .f32) (x2 x3 : Vec Ideal S1x512x512 .f32) (x4 : Vec Ideal S1024x1024 .bf16) (x5 : Vec Ideal S1x1024 .f32)
    (r : Fin 512) (k : Fin 1024) :
    (hnK x0 x1 x2 x3 x4 x5 (ix2 r k) : EReal) = Ffn.nrm (fun j => x1K x0 x1 x2 x3 x4 (ix2 r j)) k * x5 (ix2 0 k) * (1 + x1 (ix3 0 4 k)) + x1 (ix3 0 3 k) := by
  unfold hnK
  rw [pay10_apply, pay9_apply, (pay678_apply x5 x1 k).1, (pay678_apply x5 x1 k).2.1, (pay678_apply x5 x1 k).2.2]
  rfl

/-- A product with a block of the up weight, at an index. -/
theorem pay26_apply (h : FVec Ideal S512x1024 .bf16) (w : Vec Ideal S1x1024x256 .bf16) (r : Fin 512) (l : Fin 256) :
    (k0_pay26 h w (ix2 r l) : EReal) = ∑ k : Fin 1024, (h (ix2 r k) * w (ix3 0 k l) : EReal) := by
  pointwise [k0_pay26]

/-- A product with the up weight. -/
theorem uK_apply (w : Vec Ideal S11x1024x256 .bf16) (j : Fin 11) (r : Fin 512) (l : Fin 256) :
    (uK I w j (ix2 r l) : EReal) = ∑ k : Fin 1024, (I.hn (ix2 r k) * w (ix3 j k l) : EReal) := by
  unfold uK
  rw [pay26_apply]
  exact Finset.sum_congr rfl fun k _ => congrArg (fun z : EReal => I.hn (ix2 r k) * z) (ld_w w j k l)

/-- The value `sh` rows before row `r`: of the eight rows before the tile, or of the tile. -/
def back (u : FVec Ideal S512x256 .f32) (p : FVec Ideal S8x256 .f32) (sh : ℕ) (hs : sh ≤ 8) (r : Fin 512) (l : Fin 256) : EReal :=
  if h : r.val < sh then p (ix2 ⟨8 + r.val - sh, by omega⟩ l) else u (ix2 ⟨r.val - sh, by omega⟩ l)

/-- In the first eight rows, the turned row is the one before. -/
theorem back_lo (u : FVec Ideal S512x256 .f32) (p : FVec Ideal S8x256 .f32) (sh : ℕ) (h0 : 0 < sh) (hs : sh ≤ 8) (r : Fin 512) (l : Fin 256) (h : r.val < 8) :
    (if h : (8 + r.val + 16 - sh) % 16 < 8 then p (ix2 ⟨(8 + r.val + 16 - sh) % 16, h⟩ l) else u (ix2 ⟨(8 + r.val + 16 - sh) % 16 - 8, by omega⟩ l)) = back u p sh hs r l := by
  unfold back
  have e : (8 + r.val + 16 - sh) % 16 = 8 + r.val - sh := by omega
  by_cases h1 : r.val < sh
  · rw [dif_pos (by omega), dif_pos h1]
    exact congrArg (fun i => p (ix2 i l)) (Fin.ext e)
  · rw [dif_neg (by omega), dif_neg h1]
    exact congrArg (fun i => u (ix2 i l)) (Fin.ext (by show (8 + r.val + 16 - sh) % 16 - 8 = r.val - sh; omega))

/-- In the later rows, the turned row is the one before. -/
theorem back_hi (u : FVec Ideal S512x256 .f32) (p : FVec Ideal S8x256 .f32) (sh : ℕ) (hs : sh ≤ 8) (r : Fin 512) (l : Fin 256) (h : ¬r.val < 8) :
    u (ix2 ⟨(8 + (r.val - 8) + 512 - sh) % 512, by omega⟩ l) = back u p sh hs r l := by
  unfold back
  rw [dif_neg (by omega)]
  exact congrArg (fun i => u (ix2 i l)) (Fin.ext (by show (8 + (r.val - 8) + 512 - sh) % 512 = r.val - sh; omega))

/-- The convolution at an index. -/
theorem pay18_apply (u : FVec Ideal S512x256 .f32) (p : FVec Ideal S8x256 .f32) (w : FVec Ideal S3x256 .f32) (b : FVec Ideal S1x256 .f32) (r : Fin 512) (l : Fin 256) :
    (k0_pay18 u p w b (ix2 r l) : EReal) = b (ix2 0 l) + back u p 2 (by decide) r l * w (ix2 0 l) + back u p 1 (by decide) r l * w (ix2 1 l) + u (ix2 r l) * w (ix2 2 l) := by
  pointwise [k0_pay18]
  by_cases h : r.val < 8
  · rw [dif_pos h, back_lo u p 2 (by decide) (by decide) r l h, back_lo u p 1 (by decide) (by decide) r l h]
  · rw [dif_neg h, back_hi u p 2 (by decide) r l h, back_hi u p 1 (by decide) r l h]
    have e : (⟨8 + (r.val - 8), by omega⟩ : Fin 512) = r := Fin.ext (by show 8 + (r.val - 8) = r.val; omega)
    rw [e]

/-- The carried rows of a block, at an index. -/
theorem pay15_apply (v : Vec Ideal S1x1x8x256 .f32) (r : Fin 8) (l : Fin 256) : k0_pay15 v (ix2 r l) = v (ix4 0 0 r l) := by
  pointwise [k0_pay15]
/-- A block's convolution weights, at an index. -/
theorem pay16_apply (v : Vec Ideal S1x3x256 .f32) (r : Fin 3) (l : Fin 256) : k0_pay16 v (ix2 r l) = v (ix3 0 r l) := by
  pointwise [k0_pay16]
/-- A block's bias, at an index. -/
theorem pay17_apply (v : Vec Ideal S1x1x256 .f32) (l : Fin 256) : k0_pay17 v (ix2 0 l) = v (ix3 0 0 l) := by
  pointwise [k0_pay17]
/-- The last eight rows of a block, at an index. -/
theorem pay22_apply (u : FVec Ideal S512x256 .f32) (r : Fin 8) (l : Fin 256) : k0_pay22 u (ix4 0 0 r l) = u (ix2 ⟨504 + r.val, by omega⟩ l) := by
  pointwise [k0_pay22]
/-- The carried rows as a block of the second result. -/
theorem pay2_apply (v : Vec Ideal S2x11x8x256 .f32) (s : Fin 2) (j : Fin 11) (r : Fin 8) (l : Fin 256) : k0_pay2 v (ix5 0 s j r l) = v (ix4 s j r l) := by
  pointwise [k0_pay2]
/-- The stored rows as carried rows. -/
theorem pay3_apply (v : Vec Ideal S1x2x11x8x256 .f32) (s : Fin 2) (j : Fin 11) (r : Fin 8) (l : Fin 256) : k0_pay3 v (ix4 s j r l) = v (ix5 0 s j r l) := by
  pointwise [k0_pay3]

/-- The value `sh` rows before row `r`, after the carried rows. -/
def backK (w : Vec Ideal S11x1024x256 .bf16) (s : Fin 2) (j : Fin 11) (sh : ℕ) (hs : sh ≤ 8) (r : Fin 512) (l : Fin 256) : EReal :=
  if h : r.val < sh then cr (ix4 s j ⟨8 + r.val - sh, by omega⟩ l) else uK I w j (ix2 ⟨r.val - sh, by omega⟩ l)

/-- One or two rows back, from the carried rows. -/
theorem back_eq (w : Vec Ideal S11x1024x256 .bf16) (s : Fin 2) (j : Fin 11) (sh : ℕ) (hs : sh ≤ 8) (r : Fin 512) (l : Fin 256) :
    back (uK I w j) (k0_pay15 (View.ld cr (rP s j))) sh hs r l = backK I cr w s j sh hs r l := by
  unfold back backK
  by_cases h : r.val < sh
  · rw [dif_pos h, dif_pos h, pay15_apply]
    exact ld_cr cr s j _ l
  · rw [dif_neg h, dif_neg h]

/-- The convolution of one half. -/
theorem convK_apply (s : Fin 2) (w : Vec Ideal S11x1024x256 .bf16) (cw : Vec Ideal S11x3x256 .f32) (cb : Vec Ideal S11x1x256 .f32) (j : Fin 11) (r : Fin 512) (l : Fin 256) :
    (convK I cr s w cw cb j (ix2 r l) : EReal) = cb (ix3 j 0 l) + backK I cr w s j 2 (by decide) r l * cw (ix3 j 0 l) + backK I cr w s j 1 (by decide) r l * cw (ix3 j 1 l)
      + uK I w j (ix2 r l) * cw (ix3 j 2 l) := by
  unfold convK
  rw [pay18_apply, back_eq, back_eq, pay16_apply, pay16_apply, pay16_apply, pay17_apply]
  have e := fun k => ld_cw cw j k l
  have e' := ld_cb cb j l
  generalize View.ld cw _ = w1 at e ⊢
  generalize View.ld cb _ = w2 at e' ⊢
  rw [e, e, e, e']

/-- A gated channel. -/
theorem hK_apply (j : Fin 11) (r : Fin 512) (l : Fin 256) :
    (hK I cr j (ix2 r l) : EReal) = Ffn.silu (convK I cr 0 I.x6 I.x8 I.x10 j (ix2 r l)) * convK I cr 1 I.x7 I.x9 I.x11 j (ix2 r l) := by
  unfold hK Ffn.silu
  generalize convK I cr 0 I.x6 I.x8 I.x10 j = a
  generalize convK I cr 1 I.x7 I.x9 I.x11 j = g
  pointwise [k0_pay25]

/-- The last product added to the tokens, at an index. -/
theorem pay1_apply (md : FVec Ideal S6x1024 .f32) (x : FVec Ideal S512x1024 .f32) (h : Vec Ideal S512x2816 .bf16) (w : Vec Ideal S2816x1024 .bf16) (r : Fin 512) (k : Fin 1024) :
    (k0_pay1 md x h (shapeCast S2816x1024 w shapeCasts_S2816x1024_S2816x1024) (constant S512x1024 .f32 0x00000000#32) (ix3 0 r k) : EReal)
      = x (ix2 r k) + md (ix2 5 k) * ∑ i : Fin 2816, (h (ix2 r i) * w (ix2 i k) : EReal) := by
  pointwise [k0_pay1]

/-- A modulation row, at an index. -/
theorem pay4_apply (md : Vec Ideal S1x6x1024 .f32) (i : Fin 6) (k : Fin 1024) : k0_pay4 md (ix2 i k) = md (ix3 0 i k) := by
  pointwise [k0_pay4]

/-- The gated channels, all blocks: channel `i` is in block `i / 256`. -/
theorem canon_h (r : Fin 512) (i : Fin 2816) :
    View.canon (piecesH I cr) (ix2 r i) = hK I cr ⟨i.val / 256, by omega⟩ (ix2 r ⟨i.val % 256, by omega⟩) := by
  refine (View.canon_apply_of_pieces (fun y => hK I cr ⟨(y 1).val / 256, by have := (y 1).isLt; dsimp at this; omega⟩ (ix2 (y 0) ⟨(y 1).val % 256, by omega⟩)) _ ?_ _ ?_).trans rfl
  · intro p hp z
    obtain ⟨j, -, rfl⟩ := List.mem_map.mp hp
    obtain ⟨a, l, rfl⟩ : ∃ a l, z = ix2 a l := ⟨z 0, z 1, eq_ix2 z⟩
    have e0 : ((pieceH I cr j).1.emb (ix2 a l) 0 : Fin 512) = a := Fin.ext (by show 0 + 1 * a.val = _; omega)
    have e1 : ((pieceH I cr j).1.emb (ix2 a l) 1).val = 256 * j.val + l.val := by show 256 * j.val + 1 * l.val = _; omega
    show hK I cr j (ix2 a l) = hK I cr _ (ix2 _ _)
    rw [e0]
    have a1 : ∀ h, (⟨((pieceH I cr j).1.emb (ix2 a l) 1).val / 256, h⟩ : Fin 11) = j := fun h => Fin.ext (by show _ / 256 = _; rw [e1]; omega)
    have a2 : ∀ h, (⟨((pieceH I cr j).1.emb (ix2 a l) 1).val % 256, h⟩ : Fin 256) = l := fun h => Fin.ext (by show _ % 256 = _; rw [e1]; omega)
    rw [a1, a2]
  · refine ⟨pieceH I cr ⟨i.val / 256, by omega⟩, List.mem_map.mpr ⟨_, (by decide : ∀ n : Fin 11, n ∈ ([10, 9, 8, 7, 6, 5, 4, 3, 2, 1, 0] : List (Fin 11))) _, rfl⟩, ?_⟩
    refine (Rect.mem_set_unit (s := S512x2816) (inb := inbH ⟨i.val / 256, by omega⟩)).mpr fun a => ?_
    match a with
    | ⟨0, _⟩ => exact ⟨Nat.zero_le _, by show r.val < 0 + 512; omega⟩
    | ⟨1, _⟩ => exact ⟨by show 256 * (i.val / 256) ≤ i.val; omega, by show i.val < 256 * (i.val / 256) + 256; omega⟩

/-- The point's block of the first result, at an index. -/
theorem outK_apply (r : Fin 512) (k : Fin 1024) :
    (outK I cr (ix3 0 r k) : EReal) = I.xm (ix2 r k) + I.md (ix3 0 5 k) * ∑ i : Fin 2816, (hK I cr ⟨i.val / 256, by omega⟩ (ix2 r ⟨i.val % 256, by omega⟩) * I.x12 (ix2 i k) : EReal) := by
  unfold outK
  rw [pay1_apply, pay4_apply]
  simp only [canon_h]

/-- The rows a point hands on: the last eight of each block's products. -/
theorem canon_u (L' : List (View.Piece (Elt Ideal) S2x11x8x256 .f32)) (s : Fin 2) (j : Fin 11) (r : Fin 8) (l : Fin 256) :
    View.canon (piecesU I ++ L') (ix4 s j r l) = uK I (if s = 0 then I.x6 else I.x7) j (ix2 ⟨504 + r.val, by omega⟩ l) := by
  refine (View.canon_append_of_pieces (fun y => uK I (if y 0 = (0 : Fin 2) then I.x6 else I.x7) (y 1) (ix2 ⟨504 + (y 2).val, by have := (y 2).isLt; dsimp at this; omega⟩ (y 3))) L' _ ?_ _ ?_).trans rfl
  · intro p hp z
    obtain ⟨⟨j, s⟩, -, rfl⟩ := List.mem_map.mp hp
    obtain ⟨a, a', r, l, rfl⟩ : ∃ a a' r l, z = ix4 a a' r l := ⟨z 0, z 1, z 2, z 3, eq_ix4 z⟩
    obtain rfl : a = 0 := Subsingleton.elim _ _
    obtain rfl : a' = 0 := Subsingleton.elim _ _
    have e := pay22_apply (uK I (if s = 0 then I.x6 else I.x7) j) r l
    refine (show (pieceU I (j, s)).2 (ix4 0 0 r l) = _ from e).trans ?_
    have e0 : ((pieceU I (j, s)).1.emb (ix4 0 0 r l) 0 : Fin 2) = s := Fin.ext (by show s.val + 1 * 0 = _; omega)
    have e1 : ((pieceU I (j, s)).1.emb (ix4 0 0 r l) 1 : Fin 11) = j := Fin.ext (by show j.val + 1 * 0 = _; omega)
    have e2 : ((pieceU I (j, s)).1.emb (ix4 0 0 r l) 2 : Fin 8) = r := Fin.ext (by show 0 + 1 * r.val = _; omega)
    have e3 : ((pieceU I (j, s)).1.emb (ix4 0 0 r l) 3 : Fin 256) = l := Fin.ext (by show 0 + 1 * l.val = _; omega)
    show uK I (if s = 0 then I.x6 else I.x7) j (ix2 ⟨504 + r.val, _⟩ l) = uK I (if _ = (0 : Fin 2) then I.x6 else I.x7) _ (ix2 ⟨504 + (((pieceU I (j, s)).1.emb (ix4 0 0 r l) 2 : Fin 8)).val, _⟩ _)
    rw [e0, e1, e3]
    simp only [e2]
  · refine ⟨pieceU I (j, s), List.mem_map.mpr ⟨(j, s), ?_, rfl⟩, ?_⟩
    · revert s j; decide
    refine (Rect.mem_set_unit (s := S2x11x8x256) (inb := inbP s j)).mpr fun a => ?_
    match a with
    | ⟨0, _⟩ => exact ⟨le_refl s.val, by show s.val < s.val + 1; omega⟩
    | ⟨1, _⟩ => exact ⟨le_refl j.val, by show j.val < j.val + 1; omega⟩
    | ⟨2, _⟩ => exact ⟨Nat.zero_le _, by show r.val < 0 + 8; omega⟩
    | ⟨3, _⟩ => exact ⟨Nat.zero_le _, by show l.val < 0 + 256; omega⟩

end Cert.KernelIdeal.Value
end
-- ==== Proof.Tile.lean ====
module

public import proofs.«01_k».proof.Proof.Pay

/-!
# What a sequence of points computes

Points run through the tiles of 512 tokens of each batch. A point finds the last rows of the products before its tile,
the stored ones in a batch's first tile, and hands on those of its own tile; so its convolution is that of the whole
sequence. Said of any sequence of points that hand on their rows so, whose weights and rows after the mixers are given.
-/

@[expose] public section

set_option maxRecDepth 16384

noncomputable section

namespace Cert.KernelIdeal.Value

open Cert.KernelIdeal Cert.KernelIdeal.Gen Idealize.ShloMosaic Idealize.ShloMosaic.TcCoe Idealize.SL.Sem
open Cert.Ffn (batch tok col)

/-- `I` holds what point `t` of the calculation on `a` computes from. -/
structure Good (a : Ffn.Args) (t : Fin 128) (I : Ins Ideal) : Prop where
  xm : ∀ (r : Fin 512) (k : Fin 1024), (I.xm (ix2 r k) : EReal) = Ffn.x1 a (batch t) (tok t r) k
  hn : ∀ (r : Fin 512) (k : Fin 1024), (I.hn (ix2 r k) : EReal) = Ffn.hn a (batch t) (tok t r) k
  md : ∀ k : Fin 1024, I.md (ix3 0 5 k) = a.md (batch t) 5 k
  x6 : ∀ (j : Fin 11) (k : Fin 1024) (l : Fin 256), I.x6 (ix3 j k l) = a.wu k (col 0 j l)
  x7 : ∀ (j : Fin 11) (k : Fin 1024) (l : Fin 256), I.x7 (ix3 j k l) = a.wu k (col 1 j l)
  x8 : ∀ (j : Fin 11) (i : Fin 3) (l : Fin 256), I.x8 (ix3 j i l) = a.cw i (col 0 j l)
  x9 : ∀ (j : Fin 11) (i : Fin 3) (l : Fin 256), I.x9 (ix3 j i l) = a.cw i (col 1 j l)
  x10 : ∀ (j : Fin 11) (l : Fin 256), I.x10 (ix3 j 0 l) = a.cb (col 0 j l)
  x11 : ∀ (j : Fin 11) (l : Fin 256), I.x11 (ix3 j 0 l) = a.cb (col 1 j l)
  x12 : ∀ (i : Fin 2816) (k : Fin 1024), I.x12 (ix2 i k) = a.wd i k

/-- `cr` holds, as the last two of its eight rows, the two rows before the tile of point `t`. -/
abbrev IsCr (a : Ffn.Args) (t : Fin 128) (cr : Vec Ideal S2x11x8x256 .f32) : Prop :=
  ∀ (s : Fin 2) (j : Fin 11) (r : Fin 2) (l : Fin 256),
    cr (ix4 s j ⟨6 + r.val, by omega⟩ l) = Ffn.ext a (batch t) ⟨512 * (t.val % 8) + r.val, by omega⟩ (col s j l)

/-- A row of the products is a row of the sequence that starts with the stored rows. -/
theorem ext_u (a : Ffn.Args) (b : Fin 16) (i : Fin 4096) (e : Fin 4098) (h : e.val = i.val + 2) (n : Fin 5632) : Ffn.ext a b e n = Ffn.u a b i n := by
  unfold Ffn.ext
  rw [dif_neg (by omega)]
  exact congrArg (fun i => Ffn.u a b i n) (Fin.ext (by show e.val - 2 = i.val; omega))

section
variable {a : Ffn.Args} {t : Fin 128} {I : Ins Ideal} (g : Good a t I)
include g

/-- The products of half `s`. -/
theorem u_eq (w : Vec Ideal S11x1024x256 .bf16) (s : Fin 2) (j : Fin 11) (l : Fin 256) (hw : ∀ k, w (ix3 j k l) = a.wu k (col s j l)) (r : Fin 512) :
    (uK I w j (ix2 r l) : EReal) = Ffn.u a (batch t) (tok t r) (col s j l) := by
  rw [uK_apply]
  simp only [g.hn, hw]
  rfl

/-- One or two rows back. -/
theorem back_ext (cr : Vec Ideal S2x11x8x256 .f32) (hc : IsCr a t cr) (w : Vec Ideal S11x1024x256 .bf16) (s : Fin 2) (j : Fin 11) (l : Fin 256)
    (hw : ∀ k, w (ix3 j k l) = a.wu k (col s j l)) (sh : ℕ) (hs : sh ≤ 8) (h2 : sh ≤ 2) (r : Fin 512) (e : Fin 4098) (he : e.val + sh = 512 * (t.val % 8) + r.val + 2) :
    (backK I cr w s j sh hs r l : EReal) = Ffn.ext a (batch t) e (col s j l) := by
  unfold backK
  by_cases h : r.val < sh
  · rw [dif_pos h]
    have e1 : (⟨8 + r.val - sh, by omega⟩ : Fin 8) = ⟨6 + (⟨r.val + 2 - sh, by omega⟩ : Fin 2).val, by show 6 + (r.val + 2 - sh) < 8; omega⟩ := Fin.ext (by show 8 + r.val - sh = 6 + (r.val + 2 - sh); omega)
    rw [e1, hc s j ⟨r.val + 2 - sh, by omega⟩ l]
    exact congrArg (fun e => Ffn.ext a (batch t) e (col s j l)) (Fin.ext (by show 512 * (t.val % 8) + (r.val + 2 - sh) = e.val; omega))
  · rw [dif_neg h, u_eq g w s j l hw]
    exact (ext_u _ _ _ e (by show e.val = 512 * (t.val % 8) + (r.val - sh) + 2; omega) _).symm

/-- The convolution of half `s`. -/
theorem conv_eq (cr : Vec Ideal S2x11x8x256 .f32) (hc : IsCr a t cr) (w : Vec Ideal S11x1024x256 .bf16) (cw : Vec Ideal S11x3x256 .f32) (cb : Vec Ideal S11x1x256 .f32)
    (s : Fin 2) (j : Fin 11) (l : Fin 256) (hw : ∀ k, w (ix3 j k l) = a.wu k (col s j l)) (hcw : ∀ i, cw (ix3 j i l) = a.cw i (col s j l))
    (hcb : cb (ix3 j 0 l) = a.cb (col s j l)) (r : Fin 512) :
    (convK I cr s w cw cb j (ix2 r l) : EReal) = Ffn.conv a (batch t) (tok t r) (col s j l) := by
  rw [convK_apply, back_ext g cr hc w s j l hw 2 (by decide) (by decide) r ⟨(tok t r).val, by omega⟩ (by show 512 * (t.val % 8) + r.val + 2 = _; omega),
    back_ext g cr hc w s j l hw 1 (by decide) (by decide) r ⟨1 + (tok t r).val, by omega⟩ (by show 1 + (512 * (t.val % 8) + r.val) + 1 = _; omega),
    u_eq g w s j l hw, ← ext_u a (batch t) (tok t r) ⟨2 + (tok t r).val, by omega⟩ (by show 2 + (512 * (t.val % 8) + r.val) = 512 * (t.val % 8) + r.val + 2; omega),
    hcw, hcw, hcw, hcb]
  rfl

/-- The gated channels. -/
theorem h_eq (cr : Vec Ideal S2x11x8x256 .f32) (hc : IsCr a t cr) (r : Fin 512) (i : Fin 2816) :
    (hK I cr ⟨i.val / 256, by omega⟩ (ix2 r ⟨i.val % 256, by omega⟩) : EReal) = Ffn.h a (batch t) (tok t r) i := by
  rw [hK_apply]
  rw [conv_eq g cr hc I.x6 I.x8 I.x10 0 _ _ (fun k => g.x6 _ k _) (fun k => g.x8 _ k _) (g.x10 _ _),
    conv_eq g cr hc I.x7 I.x9 I.x11 1 _ _ (fun k => g.x7 _ k _) (fun k => g.x9 _ k _) (g.x11 _ _)]
  have e0 : col 0 ⟨i.val / 256, by omega⟩ ⟨i.val % 256, by omega⟩ = ⟨i.val, by omega⟩ := Fin.ext (by show 2816 * 0 + 256 * (i.val / 256) + i.val % 256 = i.val; omega)
  have e1 : col 1 ⟨i.val / 256, by omega⟩ ⟨i.val % 256, by omega⟩ = ⟨2816 + i.val, by omega⟩ := Fin.ext (by show 2816 * 1 + 256 * (i.val / 256) + i.val % 256 = 2816 + i.val; omega)
  rw [e0, e1]
  rfl

/-- The point's block of the first result. -/
theorem out_eq (cr : Vec Ideal S2x11x8x256 .f32) (hc : IsCr a t cr) (r : Fin 512) (k : Fin 1024) :
    (outK I cr (ix3 0 r k) : EReal) = Ffn.y a (batch t) (tok t r) k := by
  rw [outK_apply, g.xm, g.md]
  simp only [h_eq g cr hc, g.x12]
  rfl

/-- The rows a point hands on. -/
theorem canon_eq (L' : List (View.Piece (Elt Ideal) S2x11x8x256 .f32)) (s : Fin 2) (j : Fin 11) (r : Fin 8) (l : Fin 256) :
    View.canon (piecesU I ++ L') (ix4 s j r l) = Ffn.u a (batch t) (tok t ⟨504 + r.val, by omega⟩) (col s j l) := by
  rw [canon_u]
  refine u_eq g _ s j l (fun k => ?_) _
  match s with
  | ⟨0, _⟩ => exact g.x6 j k l
  | ⟨1, _⟩ => exact g.x7 j k l

end

variable (a : Ffn.Args)

/-- The stored rows are those before a batch's first tile. -/
theorem init_isCr (t : Fin 128) (p : Vec Ideal S1x2x11x8x256 .f32)
    (hp : ∀ (s : Fin 2) (j : Fin 11) (r : Fin 2) (l : Fin 256), p (ix5 0 s j ⟨6 + r.val, by omega⟩ l) = a.pre (batch t) r (col s j l)) (h0 : t.val % 8 = 0) : IsCr a t (k0_pay3 p) := by
  intro s j r l
  rw [pay3_apply, hp]
  unfold Ffn.ext
  rw [dif_pos (by show 512 * (t.val % 8) + r.val < 2; omega)]
  exact congrArg (fun i => a.pre (batch t) i (col s j l)) (Fin.ext (by show r.val = 512 * (t.val % 8) + r.val; omega))

/-- The points of a run: `I t` is what point `t` computes from, `p t` its stored rows, and `O t` what it leaves, that is
its block of the first result, the block of the second and the rows handed on. -/
structure Steps (I : Fin 128 → Ins Ideal) (p : Fin 128 → Vec Ideal S1x2x11x8x256 .f32)
    (O : Fin 128 → FVec Ideal S1x512x1024 .f32 × FVec Ideal S1x2x11x8x256 .f32 × FVec Ideal S2x11x8x256 .f32) : Prop where
  good : ∀ t, Good a t (I t)
  pre : ∀ (t : Fin 128) (s : Fin 2) (j : Fin 11) (r : Fin 2) (l : Fin 256), p t (ix5 0 s j ⟨6 + r.val, by omega⟩ l) = a.pre (batch t) r (col s j l)
  cr : ∀ t, ∃ L', (O t).2.2 = View.canon (piecesU (I t) ++ L')
  first : ∀ t : Fin 128, t.val % 8 = 0 → (O t).1 = outK (I t) (k0_pay3 (p t))
  next : ∀ t : Fin 128, ¬t.val % 8 = 0 → (O t).1 = outK (I t) (O ⟨t.val - 1, by omega⟩).2.2
  last : ∀ t : Fin 128, t.val % 8 = 7 → (O t).2.1 = k0_pay2 (View.canon (piecesU (I t)))

variable {a} {I : Fin 128 → Ins Ideal} {p : Fin 128 → Vec Ideal S1x2x11x8x256 .f32}
  {O : Fin 128 → FVec Ideal S1x512x1024 .f32 × FVec Ideal S1x2x11x8x256 .f32 × FVec Ideal S2x11x8x256 .f32} (S : Steps a I p O) (t : Fin 128)
include S

/-- The rows a point hands on. -/
theorem Steps.cr_apply (s : Fin 2) (j : Fin 11) (r : Fin 8) (l : Fin 256) :
    (O t).2.2 (ix4 s j r l) = Ffn.u a (batch t) (tok t ⟨504 + r.val, by omega⟩) (col s j l) := by
  obtain ⟨L', e⟩ := S.cr t
  exact (congrFun e _).trans (canon_eq (S.good t) L' s j r l)

/-- The rows that a point after a batch's first finds. -/
theorem Steps.prev (h0 : ¬t.val % 8 = 0) : IsCr a t (O ⟨t.val - 1, by omega⟩).2.2 := by
  intro s j r l
  refine (S.cr_apply ⟨t.val - 1, by omega⟩ s j ⟨6 + r.val, by omega⟩ l).trans ?_
  have hb : batch ⟨t.val - 1, by omega⟩ = batch t := Fin.ext (by show (t.val - 1) / 8 = t.val / 8; omega)
  rw [hb]
  exact (ext_u _ _ _ _ (by show 512 * (t.val % 8) + r.val = 512 * ((t.val - 1) % 8) + (504 + (6 + r.val)) + 2; omega) _).symm

/-- The first result's block after point `t`. -/
theorem Steps.out_apply (r : Fin 512) (k : Fin 1024) : (O t).1 (ix3 0 r k) = Ffn.y a (batch t) (tok t r) k := by
  by_cases h0 : t.val % 8 = 0
  · exact (congrFun (S.first t h0) _).trans (out_eq (S.good t) _ (init_isCr a t _ (S.pre t) h0) r k)
  · exact (congrFun (S.next t h0) _).trans (out_eq (S.good t) _ (S.prev t h0) r k)

/-- The second result's block after a batch's last point. -/
theorem Steps.last_apply (h1 : t.val % 8 = 7) (s : Fin 2) (j : Fin 11) (r : Fin 8) (l : Fin 256) :
    (O t).2.1 (ix5 0 s j r l) = Ffn.last a (batch t) s j r l := by
  refine (congrFun (S.last t h1) _).trans ?_
  rw [pay2_apply, ← List.append_nil (piecesU (I t)), canon_eq (S.good t)]
  have e1 : tok t ⟨504 + r.val, by omega⟩ = ⟨4088 + r.val, by omega⟩ := Fin.ext (by show 512 * (t.val % 8) + (504 + r.val) = 4088 + r.val; omega)
  have e2 : col s j l = ⟨s.val * 2816 + j.val * 256 + l.val, by omega⟩ := Fin.ext (by show 2816 * s.val + 256 * j.val + l.val = s.val * 2816 + j.val * 256 + l.val; omega)
  rw [e1, e2]
  rfl

end Cert.KernelIdeal.Value
end
-- ==== Proof.Open.lean ====
module

public import proofs.«01_k».proof.Proof.Body

/-!
# The three kinds of grid points

The stores found for a batch's first point, for a point inside a batch and for a batch's last point are those of the
functions of one point.
-/

@[expose] public section

set_option maxRecDepth 16384

noncomputable section

namespace Cert.KernelIdeal.Value

open Cert.KernelIdeal Cert.KernelIdeal.Gen Idealize.ShloMosaic Idealize.ShloMosaic.TcCoe Idealize.SL.Sem

variable {F : FTy → Type} [FloatOps F]
variable (c : Dev nD) (i : grid0.Coords) (arg2 : Memref sig .tc .vmem S1x512x1024 .f32) (harg2 : arg2.IsWhole) (arg3 : Memref sig .tc .vmem S1x6x1024 .f32) (harg3 : arg3.IsWhole) (arg4 : Memref sig .tc .vmem S1x512x512 .f32) (harg4 : arg4.IsWhole) (arg5 : Memref sig .tc .vmem S1x512x512 .f32) (harg5 : arg5.IsWhole) (arg6 : Memref sig .tc .vmem S1024x1024 .bf16) (harg6 : arg6.IsWhole) (arg7 : Memref sig .tc .vmem S1x1024 .f32) (harg7 : arg7.IsWhole) (arg8 : Memref sig .tc .vmem S11x1024x256 .bf16) (harg8 : arg8.IsWhole) (arg9 : Memref sig .tc .vmem S11x1024x256 .bf16) (harg9 : arg9.IsWhole) (arg10 : Memref sig .tc .vmem S11x3x256 .f32) (harg10 : arg10.IsWhole) (arg11 : Memref sig .tc .vmem S11x3x256 .f32) (harg11 : arg11.IsWhole) (arg12 : Memref sig .tc .vmem S11x1x256 .f32) (harg12 : arg12.IsWhole) (arg13 : Memref sig .tc .vmem S11x1x256 .f32) (harg13 : arg13.IsWhole) (arg14 : Memref sig .tc .vmem S2816x1024 .bf16) (harg14 : arg14.IsWhole) (arg15 : Memref sig .tc .vmem S1x2x11x8x256 .f32) (harg15 : arg15.IsWhole) (arg16 : Memref sig .tc .vmem S1x512x1024 .f32) (harg16 : arg16.IsWhole) (arg17 : Memref sig .tc .vmem S1x2x11x8x256 .f32) (harg17 : arg17.IsWhole) (arg18 : Memref sig .tc .vmem S2x11x8x256 .f32) (harg18 : arg18.IsWhole) (arg19 : Memref sig .tc .vmem S512x2816 .bf16) (harg19 : arg19.IsWhole)
  (x0 : Vec F S1x512x1024 .f32) (x1 : Vec F S1x6x1024 .f32) (x2 : Vec F S1x512x512 .f32) (x3 : Vec F S1x512x512 .f32) (x4 : Vec F S1024x1024 .bf16) (x5 : Vec F S1x1024 .f32) (x6 : Vec F S11x1024x256 .bf16) (x7 : Vec F S11x1024x256 .bf16) (x8 : Vec F S11x3x256 .f32) (x9 : Vec F S11x3x256 .f32) (x10 : Vec F S11x1x256 .f32) (x11 : Vec F S11x1x256 .f32) (x12 : Vec F S2816x1024 .bf16) (x13 : Vec F S1x2x11x8x256 .f32)  (xs0 : Vec F S2x11x8x256 .f32)

/-- The rows handed on at a point inside a batch. -/
theorem sout_B (hc0 : ¬cond0_0 i) (hc1 : ¬cond0_1 i) :
    sout0_B_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 x11 x12 x13 xs0 = View.canon (piecesU (insOf x0 x1 x2 x3 x4 x5 x6 x7 x8 x9 x10 x11 x12)) := by
  unfold sout0_B_0
  rw [View.read_writes_eq_canon _ _ _ (scover0_B_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 x11 x12 x13 xs0)]
  unfold kernelRun0_B
  dsimp only
  sl_unfold_words
  refine congrArg View.canon ?_
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread,
    View.ld_unit_zero (S := S1x512x1024) hz3, View.ld_unit_zero (S := S1x6x1024) hz3, View.ld_unit_zero (S := S1x512x512) hz3, View.ld_unit_zero (S := S1x1024) hz2, View.ld_unit_zero (S := S2816x1024) hz2]
  rfl

/-- The block of the first result at a point inside a batch. -/
theorem out_B (hc0 : ¬cond0_0 i) (hc1 : ¬cond0_1 i) :
    out0_B_14 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 x11 x12 x13 xs0 = outK (insOf x0 x1 x2 x3 x4 x5 x6 x7 x8 x9 x10 x11 x12) xs0 := by
  unfold out0_B_14
  rw [View.read_writes_eq_canon _ _ _ (cover0_B_14 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 x11 x12 x13 xs0)]
  unfold kernelRun0_B
  dsimp only
  sl_unfold_words
  rw [View.canon_cons_unit_zero (S := S1x512x1024) hz3]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread,
    View.ld_unit_zero (S := S1x512x1024) hz3, View.ld_unit_zero (S := S1x6x1024) hz3, View.ld_unit_zero (S := S1x512x512) hz3, View.ld_unit_zero (S := S1x1024) hz2, View.ld_unit_zero (S := S2816x1024) hz2, readCov_h]
  refine congrArg (fun L => k0_pay1 _ _ (View.canon L) _ _) ?_
  rfl

/-- The rows handed on at a batch's last point. -/
theorem sout_C (hc0 : ¬cond0_0 i) (hc1 : cond0_1 i) :
    sout0_C_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 x11 x12 x13 xs0 = View.canon (piecesU (insOf x0 x1 x2 x3 x4 x5 x6 x7 x8 x9 x10 x11 x12)) := by
  unfold sout0_C_0
  rw [View.read_writes_eq_canon _ _ _ (scover0_C_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 x11 x12 x13 xs0)]
  unfold kernelRun0_C
  dsimp only
  sl_unfold_words
  refine congrArg View.canon ?_
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread,
    View.ld_unit_zero (S := S1x512x1024) hz3, View.ld_unit_zero (S := S1x6x1024) hz3, View.ld_unit_zero (S := S1x512x512) hz3, View.ld_unit_zero (S := S1x1024) hz2, View.ld_unit_zero (S := S2816x1024) hz2]
  rfl

/-- The block of the first result at a batch's last point. -/
theorem out_C (hc0 : ¬cond0_0 i) (hc1 : cond0_1 i) :
    out0_C_14 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 x11 x12 x13 xs0 = outK (insOf x0 x1 x2 x3 x4 x5 x6 x7 x8 x9 x10 x11 x12) xs0 := by
  unfold out0_C_14
  rw [View.read_writes_eq_canon _ _ _ (cover0_C_14 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 x11 x12 x13 xs0)]
  unfold kernelRun0_C
  dsimp only
  sl_unfold_words
  rw [View.canon_cons_unit_zero (S := S1x512x1024) hz3]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread,
    View.ld_unit_zero (S := S1x512x1024) hz3, View.ld_unit_zero (S := S1x6x1024) hz3, View.ld_unit_zero (S := S1x512x512) hz3, View.ld_unit_zero (S := S1x1024) hz2, View.ld_unit_zero (S := S2816x1024) hz2, readCov_h]
  refine congrArg (fun L => k0_pay1 _ _ (View.canon L) _ _) ?_
  rfl

/-- The block of the second result at a batch's last point. -/
theorem last_C (hc0 : ¬cond0_0 i) (hc1 : cond0_1 i) :
    out0_C_15 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 x11 x12 x13 xs0 = k0_pay2 (View.canon (piecesU (insOf x0 x1 x2 x3 x4 x5 x6 x7 x8 x9 x10 x11 x12))) := by
  unfold out0_C_15
  rw [View.read_writes_eq_canon _ _ _ (cover0_C_15 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 x11 x12 x13 xs0)]
  unfold kernelRun0_C
  dsimp only
  sl_unfold_words
  rw [View.canon_cons_unit_zero (S := S1x2x11x8x256) hz5]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread,
    View.ld_unit_zero (S := S1x512x1024) hz3, View.ld_unit_zero (S := S1x6x1024) hz3, View.ld_unit_zero (S := S1x512x512) hz3, View.ld_unit_zero (S := S1x1024) hz2, View.ld_unit_zero (S := S2816x1024) hz2, readCov_c]
  rfl

/-- The rows handed on at a batch's first point. -/
theorem sout_A (hc0 : cond0_0 i) (hc1 : ¬cond0_1 i) :
    sout0_A_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 x11 x12 x13 = View.canon (piecesU (insOf x0 x1 x2 x3 x4 x5 x6 x7 x8 x9 x10 x11 x12) ++ [⟨Rect.unit (s := S2x11x8x256) ![0, 0, 0, 0] S2x11x8x256.size inb_S2x11x8x256_S2x11x8x256_0_0_0_0, k0_pay3 x13⟩]) := by
  unfold sout0_A_0
  rw [View.read_writes_eq_canon _ _ _ (scover0_A_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 x11 x12 x13)]
  unfold kernelRun0_A
  dsimp only
  sl_unfold_words
  refine congrArg View.canon ?_
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread,
    View.ld_unit_zero (S := S1x512x1024) hz3, View.ld_unit_zero (S := S1x6x1024) hz3, View.ld_unit_zero (S := S1x512x512) hz3, View.ld_unit_zero (S := S1x1024) hz2, View.ld_unit_zero (S := S2816x1024) hz2, View.ld_unit_zero (S := S1x2x11x8x256) hz5]
  rfl

/-- The block of the first result at a batch's first point. -/
theorem out_A (hc0 : cond0_0 i) (hc1 : ¬cond0_1 i) :
    out0_A_14 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 x11 x12 x13 = outK (insOf x0 x1 x2 x3 x4 x5 x6 x7 x8 x9 x10 x11 x12) (k0_pay3 x13) := by
  unfold out0_A_14
  rw [View.read_writes_eq_canon _ _ _ (cover0_A_14 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 x11 x12 x13)]
  unfold kernelRun0_A
  dsimp only
  sl_unfold_words
  rw [View.canon_cons_unit_zero (S := S1x512x1024) hz3]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread,
    View.ld_unit_zero (S := S1x512x1024) hz3, View.ld_unit_zero (S := S1x6x1024) hz3, View.ld_unit_zero (S := S1x512x512) hz3, View.ld_unit_zero (S := S1x1024) hz2, View.ld_unit_zero (S := S2816x1024) hz2, readCov_h, View.ld_unit_zero (S := S1x2x11x8x256) hz5]
  simp (disch := decide) only [readCov_skip, readCov_part]
  refine congrArg (fun L => k0_pay1 _ _ (View.canon L) _ _) ?_
  rfl

end Cert.KernelIdeal.Value
end
-- ==== Proof.Point.lean ====
module

public import proofs.«01_k».proof.Proof.Blocks
public import proofs.«01_k».proof.Proof.Tile
public import proofs.«01_k».proof.Proof.Open

/-!
# What the kernel of the first call computes

Its points are the steps of the calculation; read at every point, they give both results.
-/

@[expose] public section

set_option maxRecDepth 16384

noncomputable section

namespace Cert.KernelIdeal.Value

open Cert.KernelIdeal Cert.KernelIdeal.Gen Idealize.ShloMosaic Idealize.ShloMosaic.TcCoe Idealize.SL.Sem
open Cert.Ffn (batch tok col)

variable (m : (ℓ : Loc nD τ sig) → Buf (Elt Ideal) ℓ) (c : Dev nD) (t : Fin cfg0.N)

/-- What point `t` computes from. -/
abbrev insK : Ins Ideal :=
  insOf (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)

/-- Point `t` of the 128. -/
abbrev pt (t : Fin 128) : Fin cfg0.N := ⟨t.val, lt_of_lt_of_eq t.isLt N_0.symm⟩

/-- The point's tokens after the mixers. -/
theorem x1_eq (t : Fin 128) (r : Fin 512) (k : Fin 1024) : ((insK m c (pt t)).xm (ix2 r k) : EReal) = Ffn.x1 (argsK m c) (batch t) (tok t r) k := by
  refine (x1K_apply _ _ _ _ _ r k).trans ?_
  simp only [iblk0, iblk1, iblk2, iblk3, iblk4]
  rfl

/-- The point computes from what it should. -/
theorem good (t : Fin 128) : Good (argsK m c) t (insK m c (pt t)) where
  xm := x1_eq m c t
  hn r k := by
    refine (hnK_apply _ _ _ _ _ _ r k).trans ?_
    have e := fun j => x1_eq m c t r j
    dsimp only [insK, insOf] at e
    simp only [e, iblk1, iblk5]
    rfl
  md k := iblk1 m c (pt t) 5 k
  x6 := iblk6 m c (pt t)
  x7 := iblk7 m c (pt t)
  x8 := iblk8 m c (pt t)
  x9 := iblk9 m c (pt t)
  x10 := iblk10 m c (pt t)
  x11 := iblk11 m c (pt t)
  x12 := iblk12 m c (pt t)

/-- The block and the rows handed on at a batch's first point. -/
theorem outs_A (h0 : t.val % 8 = 0) (h1 : ¬t.val % 8 = 7) :
    (∃ L', (outsAt0 m c t.val t.isLt).2.2 = View.canon (piecesU (insK m c t) ++ L'))
    ∧ (outsAt0 m c t.val t.isLt).1 = outK (insK m c t) (k0_pay3 (iblk m c 13 t)) := by
  rw [outsAt0_A m c t h0 h1]
  dsimp only
  rw [sout_A, out_A]
  exact ⟨⟨_, rfl⟩, rfl⟩

/-- The block and the rows handed on at a point inside a batch. -/
theorem outs_B (h0 : ¬t.val % 8 = 0) (h1 : ¬t.val % 8 = 7) :
    (∃ L', (outsAt0 m c t.val t.isLt).2.2 = View.canon (piecesU (insK m c t) ++ L'))
    ∧ (outsAt0 m c t.val t.isLt).1 = outK (insK m c t) (outsAt0 m c (t.val - 1) (Nat.lt_of_le_of_lt (Nat.sub_le _ _) t.isLt)).2.2 := by
  rw [outsAt0_B m c t h0 h1]
  dsimp only
  rw [sout_B, out_B]
  exact ⟨⟨[], by rw [List.append_nil]⟩, rfl⟩

/-- The blocks and the rows handed on at a batch's last point. -/
theorem outs_C (h0 : ¬t.val % 8 = 0) (h1 : t.val % 8 = 7) :
    (∃ L', (outsAt0 m c t.val t.isLt).2.2 = View.canon (piecesU (insK m c t) ++ L'))
    ∧ (outsAt0 m c t.val t.isLt).1 = outK (insK m c t) (outsAt0 m c (t.val - 1) (Nat.lt_of_le_of_lt (Nat.sub_le _ _) t.isLt)).2.2
    ∧ (outsAt0 m c t.val t.isLt).2.1 = k0_pay2 (View.canon (piecesU (insK m c t))) := by
  rw [outsAt0_C m c t h0 h1]
  dsimp only
  rw [sout_C, out_C, last_C]
  exact ⟨⟨[], by rw [List.append_nil]⟩, rfl, rfl⟩

/-- The kernel's points are the steps of the calculation. -/
theorem steps : Steps (argsK m c) (fun t => insK m c (pt t)) (fun t => iblk m c 13 (pt t)) (fun t => outsAt0 m c t.val (pt t).isLt) where
  good := good m c
  pre t := iblk13 m c (pt t)
  cr t := by
    by_cases h0 : t.val % 8 = 0
    · exact (outs_A m c (pt t) h0 (by show ¬t.val % 8 = 7; omega)).1
    · by_cases h1 : t.val % 8 = 7
      · exact (outs_C m c (pt t) h0 h1).1
      · exact (outs_B m c (pt t) h0 h1).1
  first t h0 := (outs_A m c (pt t) h0 (by show ¬t.val % 8 = 7; omega)).2
  next t h0 := by
    by_cases h1 : t.val % 8 = 7
    · exact (outs_C m c (pt t) h0 h1).2.1
    · exact (outs_B m c (pt t) h0 h1).2
  last t h1 := (outs_C m c (pt t) (by show ¬t.val % 8 = 0; omega) h1).2.2

/-- The kernel's first result. -/
theorem G14_apply (b : Fin 16) (t : Fin 4096) (k : Fin 1024) : G14 m c (ix3 b t k) = Ffn.y (argsK m c) b t k := by
  have hb := b.isLt
  have hN : cfg0.N = 128 := N_0
  have hpt : pt14Of (ix3 b t k) = 8 * b.val + t.val / 512 := by
    show 8 * (b.val / 1 - 0) + 1 * (t.val / 512 - 0) + 1 * (k.val / 1024 - 0) = _
    omega
  have h : pt14Of (ix3 b t k) < cfg0.N := by rw [hpt, hN]; omega
  unfold G14
  rw [dif_pos h, ← outsAt0_sweep m c _ h]
  have hl : loc14Of (ix3 b t k) = ix3 0 ⟨t.val % 512, by omega⟩ k := by
    funext a
    match a with
    | ⟨0, _⟩ => exact Fin.ext (by show b.val % 1 = 0; omega)
    | ⟨1, _⟩ => rfl
    | ⟨2, _⟩ => exact Fin.ext (by show k.val % 1024 = k.val; omega)
  rw [hl]
  refine ((steps m c).out_apply ⟨pt14Of (ix3 b t k), by omega⟩ _ _).trans ?_
  have e1 : batch ⟨pt14Of (ix3 b t k), by omega⟩ = b := Fin.ext (by show pt14Of (ix3 b t k) / 8 = b.val; rw [hpt]; omega)
  have e2 : tok ⟨pt14Of (ix3 b t k), by omega⟩ ⟨t.val % 512, by omega⟩ = t :=
    Fin.ext (by show 512 * (pt14Of (ix3 b t k) % 8) + t.val % 512 = t.val; rw [hpt]; omega)
  rw [e1, e2]

/-- The kernel's second result. -/
theorem G15_apply (b : Fin 16) (s : Fin 2) (j : Fin 11) (r : Fin 8) (l : Fin 256) : G15 m c (ix5 b s j r l) = Ffn.last (argsK m c) b s j r l := by
  have hb := b.isLt
  have hN : cfg0.N = 128 := N_0
  have hpt : pt15Of (ix5 b s j r l) = 8 * b.val + 7 := by
    show 8 * (1 * (b.val / 1 - 0) + 1 * (s.val / 2 - 0) + 1 * (j.val / 11 - 0) + 1 * (r.val / 8 - 0) + 1 * (l.val / 256 - 0)) + 7 = _
    omega
  have h : pt15Of (ix5 b s j r l) < cfg0.N := by rw [hpt, hN]; omega
  unfold G15
  rw [dif_pos h, ← outsAt0_sweep m c _ h]
  have hl : loc15Of (ix5 b s j r l) = ix5 0 s j r l := by
    funext a
    match a with
    | ⟨0, _⟩ => exact Fin.ext (by show b.val % 1 = 0; omega)
    | ⟨1, _⟩ => exact Fin.ext (by show s.val % 2 = s.val; omega)
    | ⟨2, _⟩ => exact Fin.ext (by show j.val % 11 = j.val; omega)
    | ⟨3, _⟩ => exact Fin.ext (by show r.val % 8 = r.val; omega)
    | ⟨4, _⟩ => exact Fin.ext (by show l.val % 256 = l.val; omega)
  rw [hl]
  refine ((steps m c).last_apply ⟨pt15Of (ix5 b s j r l), by omega⟩ (by show pt15Of (ix5 b s j r l) % 8 = 7; rw [hpt]; omega) _ _ _ _).trans ?_
  have e1 : batch ⟨pt15Of (ix5 b s j r l), by omega⟩ = b := Fin.ext (by show pt15Of (ix5 b s j r l) / 8 = b.val; rw [hpt]; omega)
  rw [e1]

end Cert.KernelIdeal.Value
end
-- ==== Proof.RefV.lean ====
module

public import proofs.«01_k».proof.Proof.Spec
public import proofs.«01_k».proof.Proof.Gen.ReferenceIdeal.Run
public import Idealize.ShloMosaic.Lib.Pointwise
public import Idealize.ShloMosaic.Lib.Claim

/-!
# What the reference computes
-/

@[expose] public section

set_option maxRecDepth 16384

noncomputable section

namespace Cert.ReferenceIdeal.Value

open Cert.ReferenceIdeal Cert.ReferenceIdeal.Gen Idealize.ShloMosaic Idealize.ShloMosaic.TcCoe Idealize.SL.Sem
open Idealize.ShloMosaic.StableHlo

/-- One of the modulation's rows, for every token. -/
abbrev rowR (v : FVec Ideal S16x1x1024 .f32) : FVec Ideal S16x4096x1024 .f32 := broadcastInDim S16x4096x1024 ![0, 1, 2] bcast_S16x1x1024_S16x4096x1024_0_1_2 v

/-- The tokens after the mixers. -/
def x1R (x : FVec Ideal S16x4096x1024 .f32) (md : FVec Ideal S16x6x1024 .f32) (m1 m2 : FVec Ideal S16x4096x512 .f32) (wo : FVec Ideal S1024x1024 .f32) : FVec Ideal S16x4096x1024 .f32 :=
  addf x (mulf (rowR (extractStridedSlice S16x1x1024 ![0, 2, 0] md slices_S16x6x1024_S16x1x1024_0_2_0))
    (Host.dotGeneral dot_S16x4096x1024_S1024x1024_S16x4096x1024_2_0_01_1_n_n none (concatenate S16x4096x1024 2 [⟨S16x4096x512, m1⟩, ⟨S16x4096x512, m2⟩] concatenates_S16x4096x512_S16x4096x512_S16x4096x1024_d2) wo))

/-- The normed and modulated rows. -/
def hnR (x : FVec Ideal S16x4096x1024 .f32) (md : FVec Ideal S16x6x1024 .f32) (g : FVec Ideal S1024 .f32) : FVec Ideal S16x4096x1024 .f32 :=
  addf (mulf (mulf (mulf x (broadcastInDim S16x4096x1024 ![0, 1, 2] bcast_S16x4096x1_S16x4096x1024_0_1_2 (Host.rsqrt (addf (Host.divf
      (broadcastInDim S16x4096x1 ![0, 1] bcast_S16x4096_S16x4096x1_0_1 (Host.reduceAdd (mulf x x) (constant S_ .f32 0x00000000#32) reducesTo_S16x4096x1024_S16x4096_d2 h_S_))
      (broadcastInDim S16x4096x1 ![] bcast_S_S16x4096x1 (constant S_ .f32 0x44800000#32)))
      (broadcastInDim S16x4096x1 ![] bcast_S_S16x4096x1 (constant S_ .f32 0x358637BD#32))))))
      (broadcastInDim S16x4096x1024 ![0, 1, 2] bcast_S1x1x1024_S16x4096x1024_0_1_2 (broadcastInDim S1x1x1024 ![2] bcast_S1024_S1x1x1024_2 g)))
      (rowR (addf (broadcastInDim S16x1x1024 ![] bcast_S_S16x1x1024 (constant S_ .f32 0x3F800000#32)) (extractStridedSlice S16x1x1024 ![0, 4, 0] md slices_S16x6x1024_S16x1x1024_0_4_0))))
    (rowR (extractStridedSlice S16x1x1024 ![0, 3, 0] md slices_S16x6x1024_S16x1x1024_0_3_0))

/-- Their product with the up weight. -/
def uR (h : FVec Ideal S16x4096x1024 .f32) (w : FVec Ideal S1024x5632 .f32) : FVec Ideal S16x4096x5632 .f32 :=
  Host.dotGeneral dot_S16x4096x1024_S1024x5632_S16x4096x5632_2_0_01_1_n_n none h w

/-- The products with the stored rows before them. -/
def extR (p : FVec Ideal S16x2x5632 .f32) (u : FVec Ideal S16x4096x5632 .f32) : FVec Ideal S16x4098x5632 .f32 :=
  concatenate S16x4098x5632 1 [⟨S16x2x5632, p⟩, ⟨S16x4096x5632, u⟩] concatenates_S16x2x5632_S16x4096x5632_S16x4098x5632_d1

/-- One of the convolution's rows, for every token. -/
abbrev tapR (v : FVec Ideal S5632 .f32) : FVec Ideal S16x4096x5632 .f32 :=
  broadcastInDim S16x4096x5632 ![0, 1, 2] bcast_S1x1x5632_S16x4096x5632_0_1_2 (broadcastInDim S1x1x5632 ![2] bcast_S5632_S1x1x5632_2 v)

/-- The convolution along the tokens. -/
def convR (e : FVec Ideal S16x4098x5632 .f32) (w : FVec Ideal S3x5632 .f32) (b : FVec Ideal S5632 .f32) : FVec Ideal S16x4096x5632 .f32 :=
  addf (addf (addf (tapR b)
    (mulf (extractStridedSlice S16x4096x5632 ![0, 0, 0] e slices_S16x4098x5632_S16x4096x5632_0_0_0) (tapR (shapeCast S5632 (extractStridedSlice S1x5632 ![0, 0] w slices_S3x5632_S1x5632_0_0) shapeCasts_S1x5632_S5632))))
    (mulf (extractStridedSlice S16x4096x5632 ![0, 1, 0] e slices_S16x4098x5632_S16x4096x5632_0_1_0) (tapR (shapeCast S5632 (extractStridedSlice S1x5632 ![1, 0] w slices_S3x5632_S1x5632_1_0) shapeCasts_S1x5632_S5632))))
    (mulf (extractStridedSlice S16x4096x5632 ![0, 2, 0] e slices_S16x4098x5632_S16x4096x5632_0_2_0) (tapR (shapeCast S5632 (extractStridedSlice S1x5632 ![2, 0] w slices_S3x5632_S1x5632_2_0) shapeCasts_S1x5632_S5632)))

/-- The gated channels. -/
def hR (v : FVec Ideal S16x4096x5632 .f32) : FVec Ideal S16x4096x2816 .f32 :=
  mulf (mulf (extractStridedSlice S16x4096x2816 ![0, 0, 0] v slices_S16x4096x5632_S16x4096x2816_0_0_0)
    (Host.divf (broadcastInDim S16x4096x2816 ![] bcast_S_S16x4096x2816 (constant S_ .f32 0x3F800000#32)) (addf (broadcastInDim S16x4096x2816 ![] bcast_S_S16x4096x2816 (constant S_ .f32 0x3F800000#32))
      (Host.exp (Host.negf (extractStridedSlice S16x4096x2816 ![0, 0, 0] v slices_S16x4096x5632_S16x4096x2816_0_0_0))))))
    (extractStridedSlice S16x4096x2816 ![0, 0, 2816] v slices_S16x4096x5632_S16x4096x2816_0_0_2816)

/-- The tokens after the block. -/
def yR (x : FVec Ideal S16x4096x1024 .f32) (md : FVec Ideal S16x6x1024 .f32) (h : FVec Ideal S16x4096x2816 .f32) (w : FVec Ideal S2816x1024 .f32) : FVec Ideal S16x4096x1024 .f32 :=
  addf x (mulf (rowR (extractStridedSlice S16x1x1024 ![0, 5, 0] md slices_S16x6x1024_S16x1x1024_0_5_0))
    (Host.dotGeneral dot_S16x4096x2816_S2816x1024_S16x4096x1024_2_0_01_1_n_n none h w))

/-- The products' last rows. -/
def lastR (u : FVec Ideal S16x4096x5632 .f32) : FVec Ideal S16x2x11x8x256 .f32 :=
  transpose S16x2x11x8x256 [0, 2, 3, 1, 4] (shapeCast S16x8x2x11x256 (extractStridedSlice S16x8x5632 ![0, 4088, 0] u slices_S16x4096x5632_S16x8x5632_0_4088_0) shapeCasts_S16x8x5632_S16x8x2x11x256)
    transposes_S16x8x2x11x256_S16x2x11x8x256_0_2_3_1_4

/-- A token after the mixers. -/
theorem x1R_apply (x : FVec Ideal S16x4096x1024 .f32) (md : FVec Ideal S16x6x1024 .f32) (m1 m2 : FVec Ideal S16x4096x512 .f32) (wo : FVec Ideal S1024x1024 .f32) (b : Fin 16) (t : Fin 4096) (k : Fin 1024) :
    (x1R x md m1 m2 wo (ix3 b t k) : EReal) = x (ix3 b t k) + md (ix3 b 2 k) * (∑ i : Fin 512, (m1 (ix3 b t i) * wo (ix2 ⟨i.val, by omega⟩ k) : EReal)
      + ∑ i : Fin 512, (m2 (ix3 b t i) * wo (ix2 ⟨512 + i.val, by omega⟩ k) : EReal)) := by
  have e1 : ∀ i : Fin 512, concatenate S16x4096x1024 2 [⟨S16x4096x512, m1⟩, ⟨S16x4096x512, m2⟩] concatenates_S16x4096x512_S16x4096x512_S16x4096x1024_d2 (ix3 b t ⟨i.val, by omega⟩) = m1 (ix3 b t i) := fun i => by
    pointwise
  have e2 : ∀ i : Fin 512, concatenate S16x4096x1024 2 [⟨S16x4096x512, m1⟩, ⟨S16x4096x512, m2⟩] concatenates_S16x4096x512_S16x4096x512_S16x4096x1024_d2 (ix3 b t ⟨512 + i.val, by omega⟩) = m2 (ix3 b t i) := fun i => by
    pointwise
  unfold x1R
  generalize concatenate S16x4096x1024 2 [⟨S16x4096x512, m1⟩, ⟨S16x4096x512, m2⟩] concatenates_S16x4096x512_S16x4096x512_S16x4096x1024_d2 = mm at e1 e2 ⊢
  simp only [← e1, ← e2]
  rw [← Ffn.sum_halves fun i => (mm (ix3 b t i) * wo (ix2 i k) : EReal)]
  pointwise

/-- A normed and modulated row. -/
theorem hnR_apply (x : FVec Ideal S16x4096x1024 .f32) (md : FVec Ideal S16x6x1024 .f32) (g : FVec Ideal S1024 .f32) (b : Fin 16) (t : Fin 4096) (k : Fin 1024) :
    (hnR x md g (ix3 b t k) : EReal) = Ffn.nrm (fun j => x (ix3 b t j)) k * g (ix1 k) * (1 + md (ix3 b 4 k)) + md (ix3 b 3 k) := by
  unfold Ffn.nrm
  pointwise [hnR]

/-- A product with the up weight. -/
theorem uR_apply (h : FVec Ideal S16x4096x1024 .f32) (w : FVec Ideal S1024x5632 .f32) (b : Fin 16) (t : Fin 4096) (n : Fin 5632) :
    (uR h w (ix3 b t n) : EReal) = ∑ k : Fin 1024, (h (ix3 b t k) * w (ix2 k n) : EReal) := by
  pointwise [uR]

/-- A row of the products, or a stored one. -/
theorem extR_apply (p : FVec Ideal S16x2x5632 .f32) (u : FVec Ideal S16x4096x5632 .f32) (b : Fin 16) (s : Fin 4098) (n : Fin 5632) :
    (extR p u (ix3 b s n) : EReal) = if h : s.val < 2 then p (ix3 b ⟨s.val, h⟩ n) else u (ix3 b ⟨s.val - 2, by omega⟩ n) := by
  pointwise [extR]

/-- The convolution at one token. -/
theorem convR_apply (e : FVec Ideal S16x4098x5632 .f32) (w : FVec Ideal S3x5632 .f32) (v : FVec Ideal S5632 .f32) (b : Fin 16) (t : Fin 4096) (n : Fin 5632) :
    (convR e w v (ix3 b t n) : EReal) = v (ix1 n) + e (ix3 b ⟨t.val, by omega⟩ n) * w (ix2 0 n) + e (ix3 b ⟨1 + t.val, by omega⟩ n) * w (ix2 1 n)
      + e (ix3 b ⟨2 + t.val, by omega⟩ n) * w (ix2 2 n) := by
  pointwise [convR]

/-- A gated channel. -/
theorem hR_apply (v : FVec Ideal S16x4096x5632 .f32) (b : Fin 16) (t : Fin 4096) (i : Fin 2816) :
    (hR v (ix3 b t i) : EReal) = Ffn.silu (v (ix3 b t ⟨i.val, by omega⟩)) * v (ix3 b t ⟨2816 + i.val, by omega⟩) := by
  unfold Ffn.silu Ideal.logistic
  pointwise [hR]

/-- A token after the block. -/
theorem yR_apply (x : FVec Ideal S16x4096x1024 .f32) (md : FVec Ideal S16x6x1024 .f32) (h : FVec Ideal S16x4096x2816 .f32) (w : FVec Ideal S2816x1024 .f32) (b : Fin 16) (t : Fin 4096) (k : Fin 1024) :
    (yR x md h w (ix3 b t k) : EReal) = x (ix3 b t k) + md (ix3 b 5 k) * ∑ i : Fin 2816, (h (ix3 b t i) * w (ix2 i k) : EReal) := by
  pointwise [yR]

/-- One of the last eight rows. -/
theorem lastR_apply (u : FVec Ideal S16x4096x5632 .f32) (b : Fin 16) (p : Fin 2) (j : Fin 11) (r : Fin 8) (l : Fin 256) :
    lastR u (ix5 b p j r l) = u (ix3 b ⟨4088 + r.val, by omega⟩ ⟨p.val * 2816 + j.val * 256 + l.val, by omega⟩) := by
  pointwise [lastR]

/-- The arrays of a call, as functions. -/
def argsOf (x : FVec Ideal S16x4096x1024 .f32) (md : FVec Ideal S16x6x1024 .f32) (m1 m2 : FVec Ideal S16x4096x512 .f32) (wo : FVec Ideal S1024x1024 .f32) (ng : FVec Ideal S1024 .f32)
    (wu : FVec Ideal S1024x5632 .f32) (cw : FVec Ideal S3x5632 .f32) (cb : FVec Ideal S5632 .f32) (wd : FVec Ideal S2816x1024 .f32) (p : FVec Ideal S16x2x5632 .f32) : Ffn.Args where
  x b t k := x (ix3 b t k)
  md b j k := md (ix3 b j k)
  m1 b t k := m1 (ix3 b t k)
  m2 b t k := m2 (ix3 b t k)
  wo k n := wo (ix2 k n)
  ng k := ng (ix1 k)
  wu k n := wu (ix2 k n)
  cw j n := cw (ix2 j n)
  cb n := cb (ix1 n)
  wd k n := wd (ix2 k n)
  pre b j n := p (ix3 b j n)

section
variable (x : FVec Ideal S16x4096x1024 .f32) (md : FVec Ideal S16x6x1024 .f32) (m1 m2 : FVec Ideal S16x4096x512 .f32) (wo : FVec Ideal S1024x1024 .f32) (ng : FVec Ideal S1024 .f32)
  (wu : FVec Ideal S1024x5632 .f32) (cw : FVec Ideal S3x5632 .f32) (cb : FVec Ideal S5632 .f32) (wd : FVec Ideal S2816x1024 .f32) (p : FVec Ideal S16x2x5632 .f32)

/-- The products, from the arrays. -/
def uM : FVec Ideal S16x4096x5632 .f32 := uR (hnR (x1R x md m1 m2 wo) md ng) wu
/-- The gated channels, from the arrays. -/
def hM : FVec Ideal S16x4096x2816 .f32 := hR (convR (extR p (uM x md m1 m2 wo ng wu)) cw cb)

/-- The tokens after the mixers are those of the calculation. -/
theorem x1M_apply (b : Fin 16) (t : Fin 4096) (k : Fin 1024) : (x1R x md m1 m2 wo (ix3 b t k) : EReal) = Ffn.x1 (argsOf x md m1 m2 wo ng wu cw cb wd p) b t k := by
  rw [x1R_apply]
  rfl
/-- The products are those of the calculation. -/
theorem uM_apply (b : Fin 16) (t : Fin 4096) (n : Fin 5632) : (uM x md m1 m2 wo ng wu (ix3 b t n) : EReal) = Ffn.u (argsOf x md m1 m2 wo ng wu cw cb wd p) b t n := by
  unfold uM
  rw [uR_apply]
  unfold Ffn.u
  refine Finset.sum_congr rfl fun k _ => ?_
  rw [hnR_apply]
  simp only [x1M_apply x md m1 m2 wo ng wu cw cb wd p]
  rfl
/-- The products after the stored rows are those of the calculation. -/
theorem extM_apply (b : Fin 16) (s : Fin 4098) (n : Fin 5632) :
    (extR p (uM x md m1 m2 wo ng wu) (ix3 b s n) : EReal) = Ffn.ext (argsOf x md m1 m2 wo ng wu cw cb wd p) b s n := by
  refine (extR_apply _ _ b s n).trans ?_
  unfold Ffn.ext
  by_cases h : s.val < 2
  · rw [dif_pos h, dif_pos h]; rfl
  · rw [dif_neg h, dif_neg h]; exact uM_apply x md m1 m2 wo ng wu cw cb wd p b _ n
/-- The gated channels are those of the calculation. -/
theorem hM_apply (b : Fin 16) (t : Fin 4096) (i : Fin 2816) : (hM x md m1 m2 wo ng wu cw cb p (ix3 b t i) : EReal) = Ffn.h (argsOf x md m1 m2 wo ng wu cw cb wd p) b t i := by
  have e : ∀ n : Fin 5632, (convR (extR p (uM x md m1 m2 wo ng wu)) cw cb (ix3 b t n) : EReal) = Ffn.conv (argsOf x md m1 m2 wo ng wu cw cb wd p) b t n := fun n => by
    refine (convR_apply _ _ _ b t n).trans ?_
    rw [extM_apply x md m1 m2 wo ng wu cw cb wd p, extM_apply x md m1 m2 wo ng wu cw cb wd p, extM_apply x md m1 m2 wo ng wu cw cb wd p]
    rfl
  refine (hR_apply _ b t i).trans ?_
  rw [e, e]
  rfl

/-- The tokens after the block are those of the calculation. -/
theorem yM_eq : yR (x1R x md m1 m2 wo) md (hM x md m1 m2 wo ng wu cw cb p) wd = fun i => Ffn.y (argsOf x md m1 m2 wo ng wu cw cb wd p) (i 0) (i 1) (i 2) := by
  have e : ∀ (b : Fin 16) (t : Fin 4096) (k : Fin 1024),
      (yR (x1R x md m1 m2 wo) md (hM x md m1 m2 wo ng wu cw cb p) wd (ix3 b t k) : EReal) = Ffn.y (argsOf x md m1 m2 wo ng wu cw cb wd p) b t k := fun b t k => by
    rw [yR_apply, x1M_apply x md m1 m2 wo ng wu cw cb wd p]
    simp only [hM_apply x md m1 m2 wo ng wu cw cb wd p]
    rfl
  exact funext fun i => (congrArg _ (ix3_eta i).symm).trans (e (i 0) (i 1) (i 2))
/-- The last rows are those of the calculation. -/
theorem lastM_eq : lastR (uM x md m1 m2 wo ng wu) = fun i => Ffn.last (argsOf x md m1 m2 wo ng wu cw cb wd p) (i 0) (i 1) (i 2) (i 3) (i 4) := by
  refine funext fun i => Eq.trans ?_ (uM_apply x md m1 m2 wo ng wu cw cb wd p (i 0) ⟨4088 + (i 3).val, by have := (i 3).isLt; dsimp at this; omega⟩
    ⟨(i 1).val * 2816 + (i 2).val * 256 + (i 4).val, by have := (i 1).isLt; have := (i 2).isLt; have := (i 4).isLt; dsimp at *; omega⟩)
  generalize uM x md m1 m2 wo ng wu = u
  exact (congrArg _ (ix5_eta i).symm).trans (lastR_apply u (i 0) (i 1) (i 2) (i 3) (i 4))
end

variable (m : (ℓ : Loc nD τ sig) → Buf (Elt Ideal) ℓ) (c : Dev nD)

/-- The arguments, as functions. -/
abbrev argsR : Ffn.Args :=
  argsOf (m ((c : Thread nD τ).loc main_arg0)) (m ((c : Thread nD τ).loc main_arg1)) (m ((c : Thread nD τ).loc main_arg2)) (m ((c : Thread nD τ).loc main_arg3)) (m ((c : Thread nD τ).loc main_arg4))
    (m ((c : Thread nD τ).loc main_arg5)) (m ((c : Thread nD τ).loc main_arg6)) (m ((c : Thread nD τ).loc main_arg7)) (m ((c : Thread nD τ).loc main_arg8)) (m ((c : Thread nD τ).loc main_arg9))
    (m ((c : Thread nD τ).loc main_arg10))

/-- The two results. -/
def res0 : FVec Ideal S16x4096x1024 .f32 := fun i => Ffn.y (argsR m c) (i 0) (i 1) (i 2)
/-- The second result. -/
def res1 : FVec Ideal S16x2x11x8x256 .f32 := fun i => Ffn.last (argsR m c) (i 0) (i 1) (i 2) (i 3) (i 4)

/-- The first result, as computed. -/
theorem res0_eq : res_main_v63 m c = res0 m c := by
  refine Eq.trans ?_ (yM_eq (m ((c : Thread nD τ).loc main_arg0)) (m ((c : Thread nD τ).loc main_arg1)) (m ((c : Thread nD τ).loc main_arg2)) (m ((c : Thread nD τ).loc main_arg3)) (m ((c : Thread nD τ).loc main_arg4))
    (m ((c : Thread nD τ).loc main_arg5)) (m ((c : Thread nD τ).loc main_arg6)) (m ((c : Thread nD τ).loc main_arg7)) (m ((c : Thread nD τ).loc main_arg8)) (m ((c : Thread nD τ).loc main_arg9))
    (m ((c : Thread nD τ).loc main_arg10)))
  unfold res_main_v63
  rfl

/-- The reference's run: its results, and its arguments unchanged, with every counter at zero. -/
theorem runR (ρ : Dev nD → PrngReg) : θ_run (defs (F := Ideal)) (onTc (τ := τ) (main (F := Ideal))) ⟨m, fun _ => 0, ρ⟩ (fun r =>
    (∀ c : Dev nD, r.2.mem ((c.tc : Thread nD τ).loc main_v63) = res0 m c ∧ r.2.mem ((c.tc : Thread nD τ).loc main_v57) = res1 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10))
    ∧ r.2.sem = fun _ => 0) :=
  (θ_run (defs (F := Ideal)) _ _).mono (fun r h => ⟨fun c => by
    obtain ⟨h0, h1, ha⟩ := h c
    exact ⟨h0.trans (res0_eq m c), h1.trans (lastM_eq _ _ _ _ _ _ _ _ _ _ _), ha⟩,
    sem_eq_zero_of_no_sems (by decide) _⟩) (run m ρ)

end Cert.ReferenceIdeal.Value
end
-- ==== Proof.Blocks2.lean ====
module

public import proofs.«01_k».proof.Proof.Gen.Kernel2Ideal.Value
public import proofs.«01_k».proof.Proof.Spec
public import Idealize.ShloMosaic.Lib.Pointwise
public import Idealize.ShloMosaic.Lib.Claim
public import Idealize.ShloMosaic.Lib.StableHlo.ReadAt
public import Idealize.ShloMosaic.Lib.Pipeline.ValueKit

/-!
# The blocks a grid point of the second call reads

As in the first call, with the first mixer's inputs and weights besides.
-/

@[expose] public section

set_option maxRecDepth 16384

noncomputable section

namespace Cert.Kernel2Ideal.Value

open Cert.Kernel2Ideal Cert.Kernel2Ideal.Gen Idealize.ShloMosaic Idealize.ShloMosaic.TcCoe Idealize.SL.Sem
open Cert.Ffn (col)

variable (m : (ℓ : Loc nD τ sig) → Buf (Elt Ideal) ℓ) (c : Dev nD)

/-- Where the blocks that move lie. -/
theorem idx : ∀ t : Fin cfg0.N, win0_0.index t = ![t.val / 8, t.val % 8, 0] ∧ win0_1.index t = ![t.val / 8, 0, 0]
    ∧ win0_2.index t = ![t.val / 8, t.val % 8, 0] ∧ win0_3.index t = ![t.val / 8, t.val % 8, 0] ∧ win0_4.index t = ![t.val / 8, t.val % 8, 0] ∧ win0_17.index t = ![t.val / 8, 0, 0, 0, 0] :=
  (by decide +kernel : ∀ t : Fin grid0.N, _)
/-- The blocks of the first mixer's weights. -/
theorem idxM : ∀ t : Fin cfg0.N, win0_5.index t = ![0, 0] ∧ win0_6.index t = ![0, 0] ∧ win0_7.index t = ![0, 0] :=
  (by decide +kernel : ∀ t : Fin grid0.N, _)
/-- The other blocks that stay. -/
theorem idxW : ∀ t : Fin cfg0.N, win0_8.index t = ![0, 0] ∧ win0_9.index t = ![0, 0] ∧ win0_10.index t = ![0, 0, 0] ∧ win0_11.index t = ![0, 0, 0]
    ∧ win0_12.index t = ![0, 0, 0] ∧ win0_13.index t = ![0, 0, 0] ∧ win0_14.index t = ![0, 0, 0] ∧ win0_15.index t = ![0, 0, 0] ∧ win0_16.index t = ![0, 0] :=
  (by decide +kernel : ∀ t : Fin grid0.N, _)

/-- There are 128 points. -/
theorem lt128 (t : Fin cfg0.N) : t.val < 128 := lt_of_lt_of_eq t.isLt (show cfg0.N = 128 from N_0)

/-- The arguments as the functions that the calculation takes. -/
def argsK : Ffn.Args where
  x b t k := m ((c : Thread nD τ).loc main_arg0) (ix3 b t k)
  md b i k := m ((c : Thread nD τ).loc main_arg1) (ix3 b i k)
  m1 b t k := Ffn.mix (fun i => m ((c : Thread nD τ).loc main_arg3) (ix3 b t i)) (fun i => m ((c : Thread nD τ).loc main_arg2) (ix3 b t i)) (fun i => m ((c : Thread nD τ).loc main_arg5) (ix1 i)) (fun i j => m ((c : Thread nD τ).loc main_arg6) (ix2 i j))
    (fun i => m ((c : Thread nD τ).loc main_arg7) (ix1 i)) k
  m2 b t k := m ((c : Thread nD τ).loc main_arg4) (ix3 b t k)
  wo i k := m ((c : Thread nD τ).loc main_arg8) (ix2 i k)
  ng k := m ((c : Thread nD τ).loc main_arg9) (ix1 k)
  wu k n := m ((c : Thread nD τ).loc main_arg10) (ix2 k n)
  cw i n := m ((c : Thread nD τ).loc main_arg11) (ix2 i n)
  cb n := m ((c : Thread nD τ).loc main_arg12) (ix1 n)
  wd i k := m ((c : Thread nD τ).loc main_arg13) (ix2 i k)
  pre b i n := m ((c : Thread nD τ).loc main_arg14) (ix3 b i n)

/-- The batch of point `t`. -/
abbrev batchK (t : Fin cfg0.N) : Fin 16 := ⟨t.val / 8, by have := lt128 t; omega⟩
/-- Token `l` of the tile of point `t`. -/
abbrev tokK (t : Fin cfg0.N) (l : Fin 512) : Fin 4096 := ⟨512 * (t.val % 8) + l.val, by omega⟩

/-! Each block at an index. -/

/-- The tile's tokens. -/
theorem iblk0 (t : Fin cfg0.N) (l : Fin 512) (k : Fin 1024) : (iblk m c 0 t : Vec Ideal S1x512x1024 .f32) (ix3 0 l k) = (argsK m c).x (batchK t) (tokK t l) k := by
  have e := (idx t).1
  unfold argsK
  dsimp only
  blk_ext [iblk, V_main_arg0, e]
/-- The batch's modulation. -/
theorem iblk1 (t : Fin cfg0.N) (i : Fin 6) (k : Fin 1024) : (iblk m c 1 t : Vec Ideal S1x6x1024 .f32) (ix3 0 i k) = (argsK m c).md (batchK t) i k := by
  have e := (idx t).2.1
  unfold argsK
  dsimp only
  blk_ext [iblk, V_main_arg1, e]
/-- The first mixer's inputs. -/
theorem iblk2 (t : Fin cfg0.N) (l k : Fin 512) : (iblk m c 2 t : Vec Ideal S1x512x512 .f32) (ix3 0 l k) = m ((c : Thread nD τ).loc main_arg2) (ix3 (batchK t) (tokK t l) k) := by
  have e := (idx t).2.2.1
  blk_ext [iblk, V_main_arg2, e]
/-- The first mixer's rows. -/
theorem iblk3 (t : Fin cfg0.N) (l k : Fin 512) : (iblk m c 3 t : Vec Ideal S1x512x512 .f32) (ix3 0 l k) = m ((c : Thread nD τ).loc main_arg3) (ix3 (batchK t) (tokK t l) k) := by
  have e := (idx t).2.2.2.1
  blk_ext [iblk, V_main_arg3, e]
/-- The second mixer's rows. -/
theorem iblk4 (t : Fin cfg0.N) (l k : Fin 512) : (iblk m c 4 t : Vec Ideal S1x512x512 .f32) (ix3 0 l k) = (argsK m c).m2 (batchK t) (tokK t l) k := by
  have e := (idx t).2.2.2.2.1
  unfold argsK
  dsimp only
  blk_ext [iblk, V_main_arg4, e]
/-- The skip weight. -/
theorem iblk5 (t : Fin cfg0.N) (k : Fin 512) : (iblk m c 5 t : Vec Ideal S1x512 .f32) (ix2 0 k) = m ((c : Thread nD τ).loc main_arg5) (ix1 k) := by
  have e := (idxM t).1
  blk_point [iblk, V, e]
/-- The gate's weight. -/
theorem iblk6 (t : Fin cfg0.N) (i k : Fin 512) : (iblk m c 6 t : Vec Ideal S512x512 .bf16) (ix2 i k) = m ((c : Thread nD τ).loc main_arg6) (ix2 i k) := by
  have e := (idxM t).2.1
  blk_point [iblk, V, e]
/-- The gate's bias. -/
theorem iblk7 (t : Fin cfg0.N) (k : Fin 512) : (iblk m c 7 t : Vec Ideal S1x512 .f32) (ix2 0 k) = m ((c : Thread nD τ).loc main_arg7) (ix1 k) := by
  have e := (idxM t).2.2
  blk_point [iblk, V, e]
/-- The output weight. -/
theorem iblk8 (t : Fin cfg0.N) (i k : Fin 1024) : (iblk m c 8 t : Vec Ideal S1024x1024 .bf16) (ix2 i k) = (argsK m c).wo i k := by
  have e := (idxW t).1
  unfold argsK
  dsimp only
  blk_point [iblk, V, e]
/-- The norm's scale. -/
theorem iblk9 (t : Fin cfg0.N) (k : Fin 1024) : (iblk m c 9 t : Vec Ideal S1x1024 .f32) (ix2 0 k) = (argsK m c).ng k := by
  have e := (idxW t).2.1
  unfold argsK
  dsimp only
  blk_point [iblk, V, e]
/-- The down weight. -/
theorem iblk16 (t : Fin cfg0.N) (i : Fin 2816) (k : Fin 1024) : (iblk m c 16 t : Vec Ideal S2816x1024 .bf16) (ix2 i k) = (argsK m c).wd i k := by
  have e := (idxW t).2.2.2.2.2.2.2.2
  unfold argsK
  dsimp only
  blk_point [iblk, V, e]
/-- The first half of the up weight. -/
theorem iblk10 (t : Fin cfg0.N) (j : Fin 11) (k : Fin 1024) (l : Fin 256) : (iblk m c 10 t : Vec Ideal S11x1024x256 .bf16) (ix3 j k l) = (argsK m c).wu k (col 0 j l) := by
  have e := (idxW t).2.2.1
  unfold argsK
  dsimp only
  blk_point [iblk, V, e]
/-- The second half of the up weight. -/
theorem iblk11 (t : Fin cfg0.N) (j : Fin 11) (k : Fin 1024) (l : Fin 256) : (iblk m c 11 t : Vec Ideal S11x1024x256 .bf16) (ix3 j k l) = (argsK m c).wu k (col 1 j l) := by
  have e := (idxW t).2.2.2.1
  unfold argsK
  dsimp only
  blk_point [iblk, V, e]
/-- The first half of the convolution's weights. -/
theorem iblk12 (t : Fin cfg0.N) (j : Fin 11) (i : Fin 3) (l : Fin 256) : (iblk m c 12 t : Vec Ideal S11x3x256 .f32) (ix3 j i l) = (argsK m c).cw i (col 0 j l) := by
  have e := (idxW t).2.2.2.2.1
  unfold argsK
  dsimp only
  blk_point [iblk, V, e]
/-- The second half of the convolution's weights. -/
theorem iblk13 (t : Fin cfg0.N) (j : Fin 11) (i : Fin 3) (l : Fin 256) : (iblk m c 13 t : Vec Ideal S11x3x256 .f32) (ix3 j i l) = (argsK m c).cw i (col 1 j l) := by
  have e := (idxW t).2.2.2.2.2.1
  unfold argsK
  dsimp only
  blk_point [iblk, V, e]
/-- The bias by halves and blocks. -/
theorem V_cb (s : Fin 2) (j : Fin 11) (l : Fin 256) : (V m c main_v7 : Vec Ideal S2x11x1x256 .f32) (ix4 s j 0 l) = m ((c : Thread nD τ).loc main_arg12) (ix1 (col s j l)) := by
  after_reads_at
  exact congrArg (m ((c : Thread nD τ).loc main_arg12)) (congrArg ix1 (Fin.ext (by show s.val * 2816 + j.val * 256 + l.val = 2816 * s.val + 256 * j.val + l.val; omega)))
/-- The first half of the bias. -/
theorem iblk14 (t : Fin cfg0.N) (j : Fin 11) (l : Fin 256) : (iblk m c 14 t : Vec Ideal S11x1x256 .f32) (ix3 j 0 l) = (argsK m c).cb (col 0 j l) := by
  have e := (idxW t).2.2.2.2.2.2.1
  unfold argsK
  dsimp only
  have e1 : (V m c main_v27 : Vec Ideal S11x1x256 .f32) = shapeCast S11x1x256 (extractStridedSlice S1x11x1x256 ![0, 0, 0, 0] (V m c main_v7 : Vec Ideal S2x11x1x256 .f32) slices_S2x11x1x256_S1x11x1x256_0_0_0_0) shapeCasts_S1x11x1x256_S11x1x256 := by
    after_reads_simp
    rfl
  have e2 : (V m c main_v27 : Vec Ideal S11x1x256 .f32) (ix3 j 0 l) = (V m c main_v7 : Vec Ideal S2x11x1x256 .f32) (ix4 0 j 0 l) := by
    rw [e1]
    generalize V m c main_v7 = w
    pointwise
  refine Eq.trans ?_ (e2.trans (V_cb m c 0 j l))
  blk_ext [iblk, e]
/-- The second half of the bias. -/
theorem iblk15 (t : Fin cfg0.N) (j : Fin 11) (l : Fin 256) : (iblk m c 15 t : Vec Ideal S11x1x256 .f32) (ix3 j 0 l) = (argsK m c).cb (col 1 j l) := by
  have e := (idxW t).2.2.2.2.2.2.2.1
  unfold argsK
  dsimp only
  have e1 : (V m c main_v29 : Vec Ideal S11x1x256 .f32) = shapeCast S11x1x256 (extractStridedSlice S1x11x1x256 ![1, 0, 0, 0] (V m c main_v7 : Vec Ideal S2x11x1x256 .f32) slices_S2x11x1x256_S1x11x1x256_1_0_0_0) shapeCasts_S1x11x1x256_S11x1x256 := by
    after_reads_simp
    rfl
  have e2 : (V m c main_v29 : Vec Ideal S11x1x256 .f32) (ix3 j 0 l) = (V m c main_v7 : Vec Ideal S2x11x1x256 .f32) (ix4 1 j 0 l) := by
    rw [e1]
    generalize V m c main_v7 = w
    pointwise
  refine Eq.trans ?_ (e2.trans (V_cb m c 1 j l))
  blk_ext [iblk, e]
/-- The stored rows. -/
theorem iblk17 (t : Fin cfg0.N) (s : Fin 2) (j : Fin 11) (r : Fin 2) (l : Fin 256) :
    (iblk m c 17 t : Vec Ideal S1x2x11x8x256 .f32) (ix5 0 s j ⟨6 + r.val, by omega⟩ l) = (argsK m c).pre (batchK t) r (col s j l) := by
  have e := (idx t).2.2.2.2.2
  unfold argsK
  dsimp only
  have e2 : ∀ b : Fin 16, (V m c main_v12 : Vec Ideal S16x2x11x8x256 .f32) (ix5 b s j ⟨6 + r.val, by omega⟩ l) = m ((c : Thread nD τ).loc main_arg14) (ix3 b r (col s j l)) := by
    intro b
    have e3 : StableHlo.upto hostOps0 (fun b => m (c, b)) 11 (Proc.devRef .tc main_arg14) = m ((c : Thread nD τ).loc main_arg14) := by
      after_reads_simp
    after_reads_at
    refine (congrFun e3 _).trans ?_
    exact congrArg (fun n => m ((c : Thread nD τ).loc main_arg14) (ix3 b r n)) (Fin.ext (by show s.val * 2816 + j.val * 256 + l.val = 2816 * s.val + 256 * j.val + l.val; omega))
  refine Eq.trans ?_ (e2 (batchK t))
  blk_ext [iblk, e]

end Cert.Kernel2Ideal.Value
end
-- ==== Proof.Open2.lean ====
module

public import proofs.«01_k».proof.Proof.Gen.Kernel2Ideal.Value
public import proofs.«01_k».proof.Proof.Body

/-!
# The three kinds of grid points of the second call

Its points make the first mixer's rows, then compute as the points of the first call: the stores found are those of the
same functions.
-/

@[expose] public section

set_option maxRecDepth 16384

noncomputable section

namespace Cert.Kernel2Ideal.Value

open Cert.Kernel2Ideal Cert.Kernel2Ideal.Gen Idealize.ShloMosaic Idealize.ShloMosaic.TcCoe Idealize.SL.Sem
open Cert.KernelIdeal.Value (Ins woK outK piecesU piecesH hz2 hz3 hz4 hz5 readCov_h readCov_c readCov_skip readCov_part)

variable {F : FTy → Type} [FloatOps F]

section
variable (x0 : Vec F S1x512x1024 .f32) (x1 : Vec F S1x6x1024 .f32) (x2 x3 x4 : Vec F S1x512x512 .f32) (x5 : Vec F S1x512 .f32) (x6 : Vec F S512x512 .bf16) (x7 : Vec F S1x512 .f32)
  (x8 : Vec F S1024x1024 .bf16) (x9 : Vec F S1x1024 .f32) (x10 x11 : Vec F S11x1024x256 .bf16) (x12 x13 : Vec F S11x3x256 .f32) (x14 x15 : Vec F S11x1x256 .f32) (x16 : Vec F S2816x1024 .bf16)
/-- The tokens after the mixers. -/
def x1K2 : FVec F S512x1024 .f32 :=
  k0_pay6 (k0_pay3 x1) (k0_pay4 x3 x5 x2) (k0_pay5 x3 x5 x2 x6 x7) (woK x8 0 inb_S1024x1024_S512x1024_0_0) x4 (woK x8 512 inb_S1024x1024_S512x1024_512_0) x0
/-- The normed and modulated rows. -/
def hnK2 : FVec F S512x1024 .bf16 :=
  k0_pay7 (k0_pay3 x1) (k0_pay4 x3 x5 x2) (k0_pay5 x3 x5 x2 x6 x7) (woK x8 0 inb_S1024x1024_S512x1024_0_0) x4 (woK x8 512 inb_S1024x1024_S512x1024_512_0) x0 x9
/-- A point of the second call, from its blocks. -/
def insOf2 : Ins F := ⟨x1K2 x0 x1 x2 x3 x4 x5 x6 x7 x8, hnK2 x0 x1 x2 x3 x4 x5 x6 x7 x8 x9, x1, x10, x11, x12, x13, x14, x15, x16⟩
/-- The point's block of the first result, by this call's last step. -/
theorem outK2 (cr : Vec F S2x11x8x256 .f32) : outK (insOf2 x0 x1 x2 x3 x4 x5 x6 x7 x8 x9 x10 x11 x12 x13 x14 x15 x16) cr
    = k0_pay171 (k0_pay3 x1) (x1K2 x0 x1 x2 x3 x4 x5 x6 x7 x8) (View.canon (piecesH (insOf2 x0 x1 x2 x3 x4 x5 x6 x7 x8 x9 x10 x11 x12 x13 x14 x15 x16) cr)) x16 := rfl
end

variable (c : Dev nD) (i : grid0.Coords) (arg2 : Memref sig .tc .vmem S1x512x1024 .f32) (harg2 : arg2.IsWhole) (arg3 : Memref sig .tc .vmem S1x6x1024 .f32) (harg3 : arg3.IsWhole) (arg4 : Memref sig .tc .vmem S1x512x512 .f32) (harg4 : arg4.IsWhole) (arg5 : Memref sig .tc .vmem S1x512x512 .f32) (harg5 : arg5.IsWhole) (arg6 : Memref sig .tc .vmem S1x512x512 .f32) (harg6 : arg6.IsWhole) (arg7 : Memref sig .tc .vmem S1x512 .f32) (harg7 : arg7.IsWhole) (arg8 : Memref sig .tc .vmem S512x512 .bf16) (harg8 : arg8.IsWhole) (arg9 : Memref sig .tc .vmem S1x512 .f32) (harg9 : arg9.IsWhole) (arg10 : Memref sig .tc .vmem S1024x1024 .bf16) (harg10 : arg10.IsWhole) (arg11 : Memref sig .tc .vmem S1x1024 .f32) (harg11 : arg11.IsWhole) (arg12 : Memref sig .tc .vmem S11x1024x256 .bf16) (harg12 : arg12.IsWhole) (arg13 : Memref sig .tc .vmem S11x1024x256 .bf16) (harg13 : arg13.IsWhole) (arg14 : Memref sig .tc .vmem S11x3x256 .f32) (harg14 : arg14.IsWhole) (arg15 : Memref sig .tc .vmem S11x3x256 .f32) (harg15 : arg15.IsWhole) (arg16 : Memref sig .tc .vmem S11x1x256 .f32) (harg16 : arg16.IsWhole) (arg17 : Memref sig .tc .vmem S11x1x256 .f32) (harg17 : arg17.IsWhole) (arg18 : Memref sig .tc .vmem S2816x1024 .bf16) (harg18 : arg18.IsWhole) (arg19 : Memref sig .tc .vmem S1x2x11x8x256 .f32) (harg19 : arg19.IsWhole) (arg20 : Memref sig .tc .vmem S1x512x1024 .f32) (harg20 : arg20.IsWhole) (arg21 : Memref sig .tc .vmem S1x2x11x8x256 .f32) (harg21 : arg21.IsWhole) (arg22 : Memref sig .tc .vmem S2x11x8x256 .f32) (harg22 : arg22.IsWhole) (arg23 : Memref sig .tc .vmem S512x2816 .bf16) (harg23 : arg23.IsWhole)
  (x0 : Vec F S1x512x1024 .f32) (x1 : Vec F S1x6x1024 .f32) (x2 : Vec F S1x512x512 .f32) (x3 : Vec F S1x512x512 .f32) (x4 : Vec F S1x512x512 .f32) (x5 : Vec F S1x512 .f32) (x6 : Vec F S512x512 .bf16) (x7 : Vec F S1x512 .f32) (x8 : Vec F S1024x1024 .bf16) (x9 : Vec F S1x1024 .f32) (x10 : Vec F S11x1024x256 .bf16) (x11 : Vec F S11x1024x256 .bf16) (x12 : Vec F S11x3x256 .f32) (x13 : Vec F S11x3x256 .f32) (x14 : Vec F S11x1x256 .f32) (x15 : Vec F S11x1x256 .f32) (x16 : Vec F S2816x1024 .bf16) (x17 : Vec F S1x2x11x8x256 .f32) (xs0 : Vec F S2x11x8x256 .f32)

/-- The rows handed on at a point inside a batch. -/
theorem sout_B (hc0 : ¬cond0_0 i) (hc1 : ¬cond0_1 i) :
    sout0_B_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7 x8 x9 x10 x11 x12 x13 x14 x15 x16 x17 xs0 = View.canon (piecesU (insOf2 x0 x1 x2 x3 x4 x5 x6 x7 x8 x9 x10 x11 x12 x13 x14 x15 x16)) := by
  unfold sout0_B_0
  rw [View.read_writes_eq_canon _ _ _ (scover0_B_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7 x8 x9 x10 x11 x12 x13 x14 x15 x16 x17 xs0)]
  unfold kernelRun0_B
  dsimp only
  sl_unfold_words
  refine congrArg View.canon ?_
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, harg22.read_unread, harg23.read_unread,
    View.ld_unit_zero (S := S1x512x1024) hz3, View.ld_unit_zero (S := S1x6x1024) hz3, View.ld_unit_zero (S := S1x512x512) hz3, View.ld_unit_zero (S := S1x1024) hz2, View.ld_unit_zero (S := S1x512) hz2, View.ld_unit_zero (S := S512x512) hz2, View.ld_unit_zero (S := S2816x1024) hz2]
  rfl

/-- The block of the first result at a point inside a batch. -/
theorem out_B (hc0 : ¬cond0_0 i) (hc1 : ¬cond0_1 i) :
    out0_B_18 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7 x8 x9 x10 x11 x12 x13 x14 x15 x16 x17 xs0 = outK (insOf2 x0 x1 x2 x3 x4 x5 x6 x7 x8 x9 x10 x11 x12 x13 x14 x15 x16) xs0 := by
  unfold out0_B_18
  rw [View.read_writes_eq_canon _ _ _ (cover0_B_18 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7 x8 x9 x10 x11 x12 x13 x14 x15 x16 x17 xs0)]
  unfold kernelRun0_B
  dsimp only
  sl_unfold_words
  rw [View.canon_cons_unit_zero (S := S1x512x1024) hz3]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, harg22.read_unread, harg23.read_unread,
    View.ld_unit_zero (S := S1x512x1024) hz3, View.ld_unit_zero (S := S1x6x1024) hz3, View.ld_unit_zero (S := S1x512x512) hz3, View.ld_unit_zero (S := S1x1024) hz2, View.ld_unit_zero (S := S1x512) hz2, View.ld_unit_zero (S := S512x512) hz2, View.ld_unit_zero (S := S2816x1024) hz2, readCov_h]
  rw [outK2]
  refine congrArg (fun L => k0_pay171 _ _ (View.canon L) _) ?_
  rfl

/-- The rows handed on at a batch's last point. -/
theorem sout_C (hc0 : ¬cond0_0 i) (hc1 : cond0_1 i) :
    sout0_C_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7 x8 x9 x10 x11 x12 x13 x14 x15 x16 x17 xs0 = View.canon (piecesU (insOf2 x0 x1 x2 x3 x4 x5 x6 x7 x8 x9 x10 x11 x12 x13 x14 x15 x16)) := by
  unfold sout0_C_0
  rw [View.read_writes_eq_canon _ _ _ (scover0_C_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7 x8 x9 x10 x11 x12 x13 x14 x15 x16 x17 xs0)]
  unfold kernelRun0_C
  dsimp only
  sl_unfold_words
  refine congrArg View.canon ?_
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, harg22.read_unread, harg23.read_unread,
    View.ld_unit_zero (S := S1x512x1024) hz3, View.ld_unit_zero (S := S1x6x1024) hz3, View.ld_unit_zero (S := S1x512x512) hz3, View.ld_unit_zero (S := S1x1024) hz2, View.ld_unit_zero (S := S1x512) hz2, View.ld_unit_zero (S := S512x512) hz2, View.ld_unit_zero (S := S2816x1024) hz2]
  rfl

/-- The block of the first result at a batch's last point. -/
theorem out_C (hc0 : ¬cond0_0 i) (hc1 : cond0_1 i) :
    out0_C_18 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7 x8 x9 x10 x11 x12 x13 x14 x15 x16 x17 xs0 = outK (insOf2 x0 x1 x2 x3 x4 x5 x6 x7 x8 x9 x10 x11 x12 x13 x14 x15 x16) xs0 := by
  unfold out0_C_18
  rw [View.read_writes_eq_canon _ _ _ (cover0_C_18 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7 x8 x9 x10 x11 x12 x13 x14 x15 x16 x17 xs0)]
  unfold kernelRun0_C
  dsimp only
  sl_unfold_words
  rw [View.canon_cons_unit_zero (S := S1x512x1024) hz3]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, harg22.read_unread, harg23.read_unread,
    View.ld_unit_zero (S := S1x512x1024) hz3, View.ld_unit_zero (S := S1x6x1024) hz3, View.ld_unit_zero (S := S1x512x512) hz3, View.ld_unit_zero (S := S1x1024) hz2, View.ld_unit_zero (S := S1x512) hz2, View.ld_unit_zero (S := S512x512) hz2, View.ld_unit_zero (S := S2816x1024) hz2, readCov_h]
  rw [outK2]
  refine congrArg (fun L => k0_pay171 _ _ (View.canon L) _) ?_
  rfl

/-- The block of the second result at a batch's last point. -/
theorem last_C (hc0 : ¬cond0_0 i) (hc1 : cond0_1 i) :
    out0_C_19 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7 x8 x9 x10 x11 x12 x13 x14 x15 x16 x17 xs0 = k0_pay1 (View.canon (piecesU (insOf2 x0 x1 x2 x3 x4 x5 x6 x7 x8 x9 x10 x11 x12 x13 x14 x15 x16))) := by
  unfold out0_C_19
  rw [View.read_writes_eq_canon _ _ _ (cover0_C_19 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7 x8 x9 x10 x11 x12 x13 x14 x15 x16 x17 xs0)]
  unfold kernelRun0_C
  dsimp only
  sl_unfold_words
  rw [View.canon_cons_unit_zero (S := S1x2x11x8x256) hz5]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, harg22.read_unread, harg23.read_unread,
    View.ld_unit_zero (S := S1x512x1024) hz3, View.ld_unit_zero (S := S1x6x1024) hz3, View.ld_unit_zero (S := S1x512x512) hz3, View.ld_unit_zero (S := S1x1024) hz2, View.ld_unit_zero (S := S1x512) hz2, View.ld_unit_zero (S := S512x512) hz2, View.ld_unit_zero (S := S2816x1024) hz2, readCov_c]
  rfl

/-- The rows handed on at a batch's first point. -/
theorem sout_A (hc0 : cond0_0 i) (hc1 : ¬cond0_1 i) :
    sout0_A_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7 x8 x9 x10 x11 x12 x13 x14 x15 x16 x17 = View.canon (piecesU (insOf2 x0 x1 x2 x3 x4 x5 x6 x7 x8 x9 x10 x11 x12 x13 x14 x15 x16) ++ [⟨Rect.unit (s := S2x11x8x256) ![0, 0, 0, 0] S2x11x8x256.size inb_S2x11x8x256_S2x11x8x256_0_0_0_0, k0_pay2 x17⟩]) := by
  unfold sout0_A_0
  rw [View.read_writes_eq_canon _ _ _ (scover0_A_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7 x8 x9 x10 x11 x12 x13 x14 x15 x16 x17)]
  unfold kernelRun0_A
  dsimp only
  sl_unfold_words
  refine congrArg View.canon ?_
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, harg22.read_unread, harg23.read_unread,
    View.ld_unit_zero (S := S1x512x1024) hz3, View.ld_unit_zero (S := S1x6x1024) hz3, View.ld_unit_zero (S := S1x512x512) hz3, View.ld_unit_zero (S := S1x1024) hz2, View.ld_unit_zero (S := S1x512) hz2, View.ld_unit_zero (S := S512x512) hz2, View.ld_unit_zero (S := S2816x1024) hz2, View.ld_unit_zero (S := S1x2x11x8x256) hz5]
  rfl

/-- The block of the first result at a batch's first point. -/
theorem out_A (hc0 : cond0_0 i) (hc1 : ¬cond0_1 i) :
    out0_A_18 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7 x8 x9 x10 x11 x12 x13 x14 x15 x16 x17 = outK (insOf2 x0 x1 x2 x3 x4 x5 x6 x7 x8 x9 x10 x11 x12 x13 x14 x15 x16) (k0_pay2 x17) := by
  unfold out0_A_18
  rw [View.read_writes_eq_canon _ _ _ (cover0_A_18 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7 x8 x9 x10 x11 x12 x13 x14 x15 x16 x17)]
  unfold kernelRun0_A
  dsimp only
  sl_unfold_words
  rw [View.canon_cons_unit_zero (S := S1x512x1024) hz3]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, harg22.read_unread, harg23.read_unread,
    View.ld_unit_zero (S := S1x512x1024) hz3, View.ld_unit_zero (S := S1x6x1024) hz3, View.ld_unit_zero (S := S1x512x512) hz3, View.ld_unit_zero (S := S1x1024) hz2, View.ld_unit_zero (S := S1x512) hz2, View.ld_unit_zero (S := S512x512) hz2, View.ld_unit_zero (S := S2816x1024) hz2, readCov_h, View.ld_unit_zero (S := S1x2x11x8x256) hz5]
  simp (disch := decide) only [readCov_skip, readCov_part]
  rw [outK2]
  refine congrArg (fun L => k0_pay171 _ _ (View.canon L) _) ?_
  rfl

end Cert.Kernel2Ideal.Value
end
-- ==== Proof.Point2.lean ====
module

public import proofs.«01_k».proof.Proof.Blocks2
public import proofs.«01_k».proof.Proof.Tile
public import proofs.«01_k».proof.Proof.Open2

/-!
# What the kernel of the second call computes

Its points make the first mixer's rows; then they are the steps of the calculation, as those of the first call.
-/

@[expose] public section

set_option maxRecDepth 16384

noncomputable section

namespace Cert.Kernel2Ideal.Value

open Cert.Kernel2Ideal Cert.Kernel2Ideal.Gen Idealize.ShloMosaic Idealize.ShloMosaic.TcCoe Idealize.SL.Sem
open Cert.Ffn (batch tok col)
open Cert.KernelIdeal.Value (Ins woK wo_apply outK piecesU Good Steps)

/-- The gelu of the first mixer's rows, at an index. -/
theorem pay4_apply (a : Vec Ideal S1x512x512 .f32) (d : Vec Ideal S1x512 .f32) (u : Vec Ideal S1x512x512 .f32) (r k : Fin 512) :
    (k0_pay4 a d u (ix2 r k) : EReal) = Ffn.gelu (a (ix3 0 r k) + d (ix2 0 k) * u (ix3 0 r k)) := by
  unfold Ffn.gelu
  pointwise [k0_pay4]
/-- What the gate is of, at an index. -/
theorem pay5_apply (a : Vec Ideal S1x512x512 .f32) (d : Vec Ideal S1x512 .f32) (u : Vec Ideal S1x512x512 .f32) (w : Vec Ideal S512x512 .bf16) (b : Vec Ideal S1x512 .f32) (r k : Fin 512) :
    (k0_pay5 a d u w b (ix2 r k) : EReal) = ∑ i : Fin 512, (k0_pay4 a d u (ix2 r i) * w (ix2 i k) : EReal) + b (ix2 0 k) := by
  unfold k0_pay5
  generalize k0_pay4 a d u = y
  pointwise
/-- The projected rows added to the tokens, at an index. -/
theorem pay6_apply (md : FVec Ideal S6x1024 .f32) (y z : FVec Ideal S512x512 .f32) (w1 : Vec Ideal S512x1024 .bf16) (m2 : Vec Ideal S1x512x512 .f32)
    (w2 : Vec Ideal S512x1024 .bf16) (x : Vec Ideal S1x512x1024 .f32) (r : Fin 512) (k : Fin 1024) :
    (k0_pay6 md y z w1 m2 w2 x (ix2 r k) : EReal) = x (ix3 0 r k) + md (ix2 2 k) * (∑ i : Fin 512, (y (ix2 r i) * Ideal.logistic (z (ix2 r i)) * w1 (ix2 i k) : EReal)
      + ∑ i : Fin 512, (m2 (ix3 0 r i) * w2 (ix2 i k) : EReal)) := by
  pointwise [k0_pay6]
/-- The norm and the modulation, at an index. -/
theorem pay7_apply (md : FVec Ideal S6x1024 .f32) (y z : FVec Ideal S512x512 .f32) (w1 : Vec Ideal S512x1024 .bf16) (m2 : Vec Ideal S1x512x512 .f32)
    (w2 : Vec Ideal S512x1024 .bf16) (x : Vec Ideal S1x512x1024 .f32) (g : Vec Ideal S1x1024 .f32) (r : Fin 512) (k : Fin 1024) :
    (k0_pay7 md y z w1 m2 w2 x g (ix2 r k) : EReal) = Ffn.nrm (fun j => k0_pay6 md y z w1 m2 w2 x (ix2 r j)) k * g (ix2 0 k) * (1 + md (ix2 4 k)) + md (ix2 3 k) := by
  unfold k0_pay7 Ffn.nrm
  generalize k0_pay6 md y z w1 m2 w2 x = v
  pointwise
/-- A modulation row, at an index. -/
theorem pay3_apply (md : Vec Ideal S1x6x1024 .f32) (i : Fin 6) (k : Fin 1024) : k0_pay3 md (ix2 i k) = md (ix3 0 i k) := by
  pointwise [k0_pay3]

/-- A normed and modulated row. -/
theorem hnK2_apply (x0 : Vec Ideal S1x512x1024 .f32) (x1 : Vec Ideal S1x6x1024 .f32) (x2 x3 x4 : Vec Ideal S1x512x512 .f32) (x5 : Vec Ideal S1x512 .f32) (x6 : Vec Ideal S512x512 .bf16) (x7 : Vec Ideal S1x512 .f32)
    (x8 : Vec Ideal S1024x1024 .bf16) (x9 : Vec Ideal S1x1024 .f32) (r : Fin 512) (k : Fin 1024) :
    (hnK2 x0 x1 x2 x3 x4 x5 x6 x7 x8 x9 (ix2 r k) : EReal) = Ffn.nrm (fun j => x1K2 x0 x1 x2 x3 x4 x5 x6 x7 x8 (ix2 r j)) k * x9 (ix2 0 k) * (1 + x1 (ix3 0 4 k)) + x1 (ix3 0 3 k) := by
  unfold hnK2
  rw [pay7_apply, pay3_apply, pay3_apply]
  rfl

variable (m : (ℓ : Loc nD τ sig) → Buf (Elt Ideal) ℓ) (c : Dev nD) (t : Fin cfg0.N)

/-- What point `t` computes from. -/
abbrev insK : Ins Ideal :=
  insOf2 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t)

/-- Point `t` of the 128. -/
abbrev pt (t : Fin 128) : Fin cfg0.N := ⟨t.val, lt_of_lt_of_eq t.isLt N_0.symm⟩

/-- The first mixer's gated rows. -/
theorem mix_eq (t : Fin 128) (r i : Fin 512) :
    (k0_pay4 (iblk m c 3 (pt t)) (iblk m c 5 (pt t)) (iblk m c 2 (pt t)) (ix2 r i) * Ideal.logistic (k0_pay5 (iblk m c 3 (pt t)) (iblk m c 5 (pt t)) (iblk m c 2 (pt t)) (iblk m c 6 (pt t)) (iblk m c 7 (pt t)) (ix2 r i)) : EReal)
      = (argsK m c).m1 (batch t) (tok t r) i := by
  rw [pay5_apply]
  simp only [pay4_apply, iblk2, iblk3, iblk5, iblk6, iblk7]
  rfl

/-- The point's tokens after the mixers. -/
theorem x1_eq (t : Fin 128) (r : Fin 512) (k : Fin 1024) : ((insK m c (pt t)).xm (ix2 r k) : EReal) = Ffn.x1 (argsK m c) (batch t) (tok t r) k := by
  refine (pay6_apply _ _ _ _ _ _ _ r k).trans ?_
  have e := fun i => (wo_apply (iblk m c 8 (pt t)) i k).1
  have e' := fun i => (wo_apply (iblk m c 8 (pt t)) i k).2
  simp only [e, e', mix_eq, pay3_apply, iblk0, iblk1, iblk4, iblk8]
  rfl

/-- The point's normed and modulated rows. -/
theorem hn_eq (t : Fin 128) (r : Fin 512) (k : Fin 1024) : ((insK m c (pt t)).hn (ix2 r k) : EReal) = Ffn.hn (argsK m c) (batch t) (tok t r) k := by
  refine (hnK2_apply _ _ _ _ _ _ _ _ _ _ r k).trans ?_
  have e := fun j => x1_eq m c t r j
  dsimp only [insK, insOf2] at e
  simp only [e, iblk1, iblk9]
  rfl

set_option maxHeartbeats 2000000 in
/-- The point computes from what it should. -/
theorem good (t : Fin 128) : Good (argsK m c) t (insK m c (pt t)) :=
  ⟨x1_eq m c t, hn_eq m c t, iblk1 m c (pt t) 5, iblk10 m c (pt t), iblk11 m c (pt t), iblk12 m c (pt t), iblk13 m c (pt t), iblk14 m c (pt t), iblk15 m c (pt t), iblk16 m c (pt t)⟩

/-- The block and the rows handed on at a batch's first point. -/
theorem outs_A (h0 : t.val % 8 = 0) (h1 : ¬t.val % 8 = 7) :
    (∃ L', (outsAt0 m c t.val t.isLt).2.2 = View.canon (piecesU (insK m c t) ++ L'))
    ∧ (outsAt0 m c t.val t.isLt).1 = outK (insK m c t) (k0_pay2 (iblk m c 17 t)) := by
  rw [outsAt0_A m c t h0 h1]
  dsimp only
  rw [sout_A, out_A]
  exact ⟨⟨_, rfl⟩, rfl⟩

/-- The block and the rows handed on at a point inside a batch. -/
theorem outs_B (h0 : ¬t.val % 8 = 0) (h1 : ¬t.val % 8 = 7) :
    (∃ L', (outsAt0 m c t.val t.isLt).2.2 = View.canon (piecesU (insK m c t) ++ L'))
    ∧ (outsAt0 m c t.val t.isLt).1 = outK (insK m c t) (outsAt0 m c (t.val - 1) (Nat.lt_of_le_of_lt (Nat.sub_le _ _) t.isLt)).2.2 := by
  rw [outsAt0_B m c t h0 h1]
  dsimp only
  rw [sout_B, out_B]
  exact ⟨⟨[], by rw [List.append_nil]⟩, rfl⟩

/-- The blocks and the rows handed on at a batch's last point. -/
theorem outs_C (h0 : ¬t.val % 8 = 0) (h1 : t.val % 8 = 7) :
    (∃ L', (outsAt0 m c t.val t.isLt).2.2 = View.canon (piecesU (insK m c t) ++ L'))
    ∧ (outsAt0 m c t.val t.isLt).1 = outK (insK m c t) (outsAt0 m c (t.val - 1) (Nat.lt_of_le_of_lt (Nat.sub_le _ _) t.isLt)).2.2
    ∧ (outsAt0 m c t.val t.isLt).2.1 = k0_pay1 (View.canon (piecesU (insK m c t))) := by
  rw [outsAt0_C m c t h0 h1]
  dsimp only
  rw [sout_C, out_C, last_C]
  exact ⟨⟨[], by rw [List.append_nil]⟩, rfl, rfl⟩

/-- The kernel's points are the steps of the calculation. -/
theorem steps : Steps (argsK m c) (fun t => insK m c (pt t)) (fun t => iblk m c 17 (pt t)) (fun t => outsAt0 m c t.val (pt t).isLt) where
  good := good m c
  pre t := iblk17 m c (pt t)
  cr t := by
    by_cases h0 : t.val % 8 = 0
    · exact (outs_A m c (pt t) h0 (by show ¬t.val % 8 = 7; omega)).1
    · by_cases h1 : t.val % 8 = 7
      · exact (outs_C m c (pt t) h0 h1).1
      · exact (outs_B m c (pt t) h0 h1).1
  first t h0 := (outs_A m c (pt t) h0 (by show ¬t.val % 8 = 7; omega)).2
  next t h0 := by
    by_cases h1 : t.val % 8 = 7
    · exact (outs_C m c (pt t) h0 h1).2.1
    · exact (outs_B m c (pt t) h0 h1).2
  last t h1 := (outs_C m c (pt t) (by show ¬t.val % 8 = 0; omega) h1).2.2

/-- The kernel's first result. -/
theorem G18_apply (b : Fin 16) (t : Fin 4096) (k : Fin 1024) : G18 m c (ix3 b t k) = Ffn.y (argsK m c) b t k := by
  have hb := b.isLt
  have hN : cfg0.N = 128 := N_0
  have hpt : pt18Of (ix3 b t k) = 8 * b.val + t.val / 512 := by
    show 8 * (b.val / 1 - 0) + 1 * (t.val / 512 - 0) + 1 * (k.val / 1024 - 0) = _
    omega
  have h : pt18Of (ix3 b t k) < cfg0.N := by rw [hpt, hN]; omega
  unfold G18
  rw [dif_pos h, ← outsAt0_sweep m c _ h]
  have hl : loc18Of (ix3 b t k) = ix3 0 ⟨t.val % 512, by omega⟩ k := by
    funext a
    match a with
    | ⟨0, _⟩ => exact Fin.ext (by show b.val % 1 = 0; omega)
    | ⟨1, _⟩ => rfl
    | ⟨2, _⟩ => exact Fin.ext (by show k.val % 1024 = k.val; omega)
  rw [hl]
  refine ((steps m c).out_apply ⟨pt18Of (ix3 b t k), by omega⟩ _ _).trans ?_
  have e1 : batch ⟨pt18Of (ix3 b t k), by omega⟩ = b := Fin.ext (by show pt18Of (ix3 b t k) / 8 = b.val; rw [hpt]; omega)
  have e2 : tok ⟨pt18Of (ix3 b t k), by omega⟩ ⟨t.val % 512, by omega⟩ = t :=
    Fin.ext (by show 512 * (pt18Of (ix3 b t k) % 8) + t.val % 512 = t.val; rw [hpt]; omega)
  rw [e1, e2]

/-- The kernel's second result. -/
theorem G19_apply (b : Fin 16) (s : Fin 2) (j : Fin 11) (r : Fin 8) (l : Fin 256) : G19 m c (ix5 b s j r l) = Ffn.last (argsK m c) b s j r l := by
  have hb := b.isLt
  have hN : cfg0.N = 128 := N_0
  have hpt : pt19Of (ix5 b s j r l) = 8 * b.val + 7 := by
    show 8 * (1 * (b.val / 1 - 0) + 1 * (s.val / 2 - 0) + 1 * (j.val / 11 - 0) + 1 * (r.val / 8 - 0) + 1 * (l.val / 256 - 0)) + 7 = _
    omega
  have h : pt19Of (ix5 b s j r l) < cfg0.N := by rw [hpt, hN]; omega
  unfold G19
  rw [dif_pos h, ← outsAt0_sweep m c _ h]
  have hl : loc19Of (ix5 b s j r l) = ix5 0 s j r l := by
    funext a
    match a with
    | ⟨0, _⟩ => exact Fin.ext (by show b.val % 1 = 0; omega)
    | ⟨1, _⟩ => exact Fin.ext (by show s.val % 2 = s.val; omega)
    | ⟨2, _⟩ => exact Fin.ext (by show j.val % 11 = j.val; omega)
    | ⟨3, _⟩ => exact Fin.ext (by show r.val % 8 = r.val; omega)
    | ⟨4, _⟩ => exact Fin.ext (by show l.val % 256 = l.val; omega)
  rw [hl]
  refine ((steps m c).last_apply ⟨pt19Of (ix5 b s j r l), by omega⟩ (by show pt19Of (ix5 b s j r l) % 8 = 7; rw [hpt]; omega) _ _ _ _).trans ?_
  have e1 : batch ⟨pt19Of (ix5 b s j r l), by omega⟩ = b := Fin.ext (by show pt19Of (ix5 b s j r l) / 8 = b.val; rw [hpt]; omega)
  rw [e1]

end Cert.Kernel2Ideal.Value
end
-- ==== Proof.RefV2.lean ====
module

public import proofs.«01_k».proof.Proof.RefV
public import proofs.«01_k».proof.Proof.Gen.Reference2Ideal.Run

/-!
# What the reference of the second call computes

It makes the first mixer's rows, then does as the reference of the first call.
-/

@[expose] public section

set_option maxRecDepth 16384

noncomputable section

namespace Cert.Reference2Ideal.Value

open Cert.Reference2Ideal Cert.Reference2Ideal.Gen Idealize.ShloMosaic Idealize.ShloMosaic.TcCoe Idealize.SL.Sem
open Idealize.ShloMosaic.StableHlo
open Cert.ReferenceIdeal.Value (argsOf x1R uM hM yR lastR yM_eq lastM_eq)

/-- A row of 512 channels, for every token. -/
abbrev chanR (v : FVec Ideal S512 .f32) : FVec Ideal S16x4096x512 .f32 :=
  broadcastInDim S16x4096x512 ![0, 1, 2] bcast_S1x1x512_S16x4096x512_0_1_2 (broadcastInDim S1x1x512 ![2] bcast_S512_S1x1x512_2 v)
/-- A number, for every token and channel. -/
abbrev numR (b : BitVec 32) : FVec Ideal S16x4096x512 .f32 := broadcastInDim S16x4096x512 ![] bcast_S_S16x4096x512 (constant S_ .f32 b)

/-- The mixer's rows and its inputs by the skip weight. -/
def skipR (m u : FVec Ideal S16x4096x512 .f32) (d : FVec Ideal S512 .f32) : FVec Ideal S16x4096x512 .f32 := addf m (mulf (chanR d) u)
/-- Their gelu. -/
def geluR (y : FVec Ideal S16x4096x512 .f32) : FVec Ideal S16x4096x512 .f32 :=
  mulf y (mulf (numR 0x3F000000#32) (addf (numR 0x3F800000#32) (Host.tanh (mulf (numR 0x3F4C422A#32) (addf y (mulf (numR 0x3D372713#32) (mulf (mulf y y) y)))))))
/-- The gate. -/
def gateR (y : FVec Ideal S16x4096x512 .f32) (w : FVec Ideal S512x512 .f32) (b : FVec Ideal S512 .f32) : FVec Ideal S16x4096x512 .f32 :=
  mulf y (Host.divf (numR 0x3F800000#32) (addf (numR 0x3F800000#32) (Host.exp (Host.negf (addf (Host.dotGeneral dot_S16x4096x512_S512x512_S16x4096x512_2_0_01_1_n_n none y w) (chanR b))))))
/-- The first mixer's rows. -/
def mixR (u m : FVec Ideal S16x4096x512 .f32) (d : FVec Ideal S512 .f32) (w : FVec Ideal S512x512 .f32) (b : FVec Ideal S512 .f32) : FVec Ideal S16x4096x512 .f32 :=
  gateR (geluR (skipR m u d)) w b

/-- The mixer's rows and its inputs by the skip weight, at an index. -/
theorem skipR_apply (m u : FVec Ideal S16x4096x512 .f32) (d : FVec Ideal S512 .f32) (b : Fin 16) (t : Fin 4096) (k : Fin 512) :
    (skipR m u d (ix3 b t k) : EReal) = m (ix3 b t k) + d (ix1 k) * u (ix3 b t k) := by
  pointwise [skipR]
/-- The gelu at an index. -/
theorem geluR_apply (y : FVec Ideal S16x4096x512 .f32) (b : Fin 16) (t : Fin 4096) (k : Fin 512) : (geluR y (ix3 b t k) : EReal) = Ffn.gelu (y (ix3 b t k)) := by
  have e : Ffn.gelu (y (ix3 b t k)) = y (ix3 b t k) * (Ideal.ofBits .f32 0x3F000000#32 * (1 + Ideal.tanh (Ideal.ofBits .f32 0x3F4C422A#32
      * (y (ix3 b t k) + Ideal.ofBits .f32 0x3D372713#32 * (y (ix3 b t k) * y (ix3 b t k) * y (ix3 b t k)))))) := by
    unfold Ffn.gelu
    rw [mul_comm (y (ix3 b t k) * y (ix3 b t k) : EReal)]
  rw [e]
  pointwise [geluR]
/-- The gate at an index. -/
theorem gateR_apply (y : FVec Ideal S16x4096x512 .f32) (w : FVec Ideal S512x512 .f32) (v : FVec Ideal S512 .f32) (b : Fin 16) (t : Fin 4096) (k : Fin 512) :
    (gateR y w v (ix3 b t k) : EReal) = y (ix3 b t k) * Ideal.logistic (∑ i : Fin 512, (y (ix3 b t i) * w (ix2 i k) : EReal) + v (ix1 k)) := by
  unfold Ideal.logistic
  pointwise [gateR]
/-- The first mixer's rows, at an index. -/
theorem mixR_apply (u m : FVec Ideal S16x4096x512 .f32) (d : FVec Ideal S512 .f32) (w : FVec Ideal S512x512 .f32) (v : FVec Ideal S512 .f32) (b : Fin 16) (t : Fin 4096) (k : Fin 512) :
    (mixR u m d w v (ix3 b t k) : EReal) = Ffn.mix (fun i => m (ix3 b t i)) (fun i => u (ix3 b t i)) (fun i => d (ix1 i)) (fun i j => w (ix2 i j)) (fun i => v (ix1 i)) k := by
  unfold mixR
  rw [gateR_apply]
  simp only [geluR_apply, skipR_apply]
  rfl

variable (m : (ℓ : Loc nD τ sig) → Buf (Elt Ideal) ℓ) (c : Dev nD)

/-- The arguments, as functions. -/
abbrev argsR : Ffn.Args :=
  argsOf (m ((c : Thread nD τ).loc main_arg0)) (m ((c : Thread nD τ).loc main_arg1))
    (mixR (m ((c : Thread nD τ).loc main_arg2)) (m ((c : Thread nD τ).loc main_arg3)) (m ((c : Thread nD τ).loc main_arg5)) (m ((c : Thread nD τ).loc main_arg6)) (m ((c : Thread nD τ).loc main_arg7)))
    (m ((c : Thread nD τ).loc main_arg4)) (m ((c : Thread nD τ).loc main_arg8)) (m ((c : Thread nD τ).loc main_arg9)) (m ((c : Thread nD τ).loc main_arg10))
    (m ((c : Thread nD τ).loc main_arg11)) (m ((c : Thread nD τ).loc main_arg12)) (m ((c : Thread nD τ).loc main_arg13)) (m ((c : Thread nD τ).loc main_arg14))

/-- The two results. -/
def res0 : FVec Ideal S16x4096x1024 .f32 := fun i => Ffn.y (argsR m c) (i 0) (i 1) (i 2)
/-- The second result. -/
def res1 : FVec Ideal S16x2x11x8x256 .f32 := fun i => Ffn.last (argsR m c) (i 0) (i 1) (i 2) (i 3) (i 4)

/-- The tokens after the mixers, as computed. -/
theorem x1_eq : res_main_v36 (launchContents m c) = x1R (m ((c : Thread nD τ).loc main_arg0)) (m ((c : Thread nD τ).loc main_arg1)) (mixR (m ((c : Thread nD τ).loc main_arg2)) (m ((c : Thread nD τ).loc main_arg3)) (m ((c : Thread nD τ).loc main_arg5)) (m ((c : Thread nD τ).loc main_arg6)) (m ((c : Thread nD τ).loc main_arg7))) (m ((c : Thread nD τ).loc main_arg4)) (m ((c : Thread nD τ).loc main_arg8)) := rfl
/-- The products, as computed. -/
theorem u_eq : res_main_v56 (launchContents m c) = uM (m ((c : Thread nD τ).loc main_arg0)) (m ((c : Thread nD τ).loc main_arg1)) (mixR (m ((c : Thread nD τ).loc main_arg2)) (m ((c : Thread nD τ).loc main_arg3)) (m ((c : Thread nD τ).loc main_arg5)) (m ((c : Thread nD τ).loc main_arg6)) (m ((c : Thread nD τ).loc main_arg7))) (m ((c : Thread nD τ).loc main_arg4)) (m ((c : Thread nD τ).loc main_arg8)) (m ((c : Thread nD τ).loc main_arg9)) (m ((c : Thread nD τ).loc main_arg10)) := by
  unfold res_main_v56
  rw [x1_eq]
  rfl

/-- The reference's run: its results, and its arguments unchanged, with every counter at zero. -/
theorem runR (ρ : Dev nD → PrngReg) : θ_run (defs (F := Ideal)) (onTc (τ := τ) (main (F := Ideal))) ⟨m, fun _ => 0, ρ⟩ (fun r =>
    (∀ c : Dev nD, r.2.mem ((c.tc : Thread nD τ).loc main_v91) = res0 m c ∧ r.2.mem ((c.tc : Thread nD τ).loc main_v85) = res1 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14))
    ∧ r.2.sem = fun _ => 0) :=
  (θ_run (defs (F := Ideal)) _ _).mono (fun r h => ⟨fun c => by
    obtain ⟨h0, h1, ha⟩ := h c
    refine ⟨h0.trans (Eq.trans ?_ (yM_eq (m ((c : Thread nD τ).loc main_arg0)) (m ((c : Thread nD τ).loc main_arg1)) (mixR (m ((c : Thread nD τ).loc main_arg2)) (m ((c : Thread nD τ).loc main_arg3)) (m ((c : Thread nD τ).loc main_arg5)) (m ((c : Thread nD τ).loc main_arg6)) (m ((c : Thread nD τ).loc main_arg7))) (m ((c : Thread nD τ).loc main_arg4)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)))), h1.trans (Eq.trans ?_ (lastM_eq (m ((c : Thread nD τ).loc main_arg0)) (m ((c : Thread nD τ).loc main_arg1)) (mixR (m ((c : Thread nD τ).loc main_arg2)) (m ((c : Thread nD τ).loc main_arg3)) (m ((c : Thread nD τ).loc main_arg5)) (m ((c : Thread nD τ).loc main_arg6)) (m ((c : Thread nD τ).loc main_arg7))) (m ((c : Thread nD τ).loc main_arg4)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)))), ha⟩
    · unfold res_main_v81 res_main_v80 res_main_v57
      rw [u_eq, x1_eq]
      rfl
    · rw [u_eq]
      rfl,
    sem_eq_zero_of_no_sems (by decide) _⟩) (run m ρ)

end Cert.Reference2Ideal.Value
end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Kernel2Ideal.Value
public import proofs.«01_k».proof.Proof.Gen.Reference2Ideal.Run
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.OdFinal
public import proofs.«01_k».proof.Proof.EvFinal
public import proofs.«01_k».proof.Proof.Point
public import proofs.«01_k».proof.Proof.RefV
public import proofs.«01_k».proof.Proof.Point2
public import proofs.«01_k».proof.Proof.RefV2
public import Idealize.ShloMosaic.Adequacy
public import Idealize.ShloMosaic.Init

@[expose] public section

noncomputable section

namespace Cert.Proof

open Idealize.ShloMosaic Idealize.SL.Sem Cert.Kernel

/-- Memories agreeing on the arguments give the same arrays. -/
theorem args_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (h7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7))
    (h8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8))
    (h9 : m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9))
    (h10 : m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) :
    Cert.ReferenceIdeal.Value.argsR m' c = Cert.KernelIdeal.Value.argsK m c := by
  unfold Cert.ReferenceIdeal.Value.argsR Cert.ReferenceIdeal.Value.argsOf Cert.KernelIdeal.Value.argsK
  congr 1
  · funext b t k; exact congrFun h0 _
  · funext b i k; exact congrFun h1 _
  · funext b t k; exact congrFun h2 _
  · funext b t k; exact congrFun h3 _
  · funext i k; exact congrFun h4 _
  · funext k; exact congrFun h5 _
  · funext k n; exact congrFun h6 _
  · funext i n; exact congrFun h7 _
  · funext n; exact congrFun h8 _
  · funext i k; exact congrFun h9 _
  · funext b i n; exact congrFun h10 _

/-- The first call's kernel and reference end with the same two results. -/
theorem algebraic : Cert.algebraic_KernelIdeal_ReferenceIdeal := fun m ρ m' ρ' _ hag =>
  ⟨fun c => Cert.ReferenceIdeal.Value.res0 m' c, fun c => Cert.ReferenceIdeal.Value.res1 m' c,
    (θ_run _ _ _).mono (fun _ h c => by
      obtain ⟨a0, a1, a2, a3, a4, a5, a6, a7, a8, a9, a10⟩ := hag c
      have e := args_eq m m' c a0 a1 a2 a3 a4 a5 a6 a7 a8 a9 a10
      refine ⟨(h c).1.trans (funext fun i => ?_), (h c).2.1.trans (funext fun i => ?_), (h c).2.2⟩
      · refine (congrArg _ (ix3_eta i).symm).trans ((Cert.KernelIdeal.Value.G14_apply m c (i 0) (i 1) (i 2)).trans ?_)
        rw [← e]; rfl
      · refine (congrArg _ (ix5_eta i).symm).trans ((Cert.KernelIdeal.Value.G15_apply m c (i 0) (i 1) (i 2) (i 3) (i 4)).trans ?_)
        rw [← e]; rfl) (Cert.KernelIdeal.Value.run m ρ),
    (θ_run _ _ _).mono (fun _ h => h.1) (Cert.ReferenceIdeal.Value.runR m' ρ')⟩

/-- Memories agreeing on the arguments of the second call give the same arrays. -/
theorem args_eq2 (m : (ℓ : Loc Cert.Kernel2Ideal.nD Cert.Kernel2Ideal.τ Cert.Kernel2Ideal.sig) → Buf (Elt Ideal) ℓ)
    (m' : (ℓ : Loc Cert.Reference2Ideal.nD Cert.Reference2Ideal.τ Cert.Reference2Ideal.sig) → Buf (Elt Ideal) ℓ) (c : Dev Cert.Kernel2Ideal.nD)
    (h0 : m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0))
    (h1 : m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1))
    (h2 : m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2))
    (h3 : m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3))
    (h4 : m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4))
    (h5 : m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5))
    (h6 : m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6))
    (h7 : m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7))
    (h8 : m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8))
    (h9 : m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9))
    (h10 : m' ((c.tc : Thread Cert.Reference2Ideal.nD Cert.Reference2Ideal.τ).loc Cert.Reference2Ideal.main_arg10) = m ((c.tc : Thread Cert.Kernel2Ideal.nD Cert.Kernel2Ideal.τ).loc Cert.Kernel2Ideal.main_arg10))
    (h11 : m' ((c.tc : Thread Cert.Reference2Ideal.nD Cert.Reference2Ideal.τ).loc Cert.Reference2Ideal.main_arg11) = m ((c.tc : Thread Cert.Kernel2Ideal.nD Cert.Kernel2Ideal.τ).loc Cert.Kernel2Ideal.main_arg11))
    (h12 : m' ((c.tc : Thread Cert.Reference2Ideal.nD Cert.Reference2Ideal.τ).loc Cert.Reference2Ideal.main_arg12) = m ((c.tc : Thread Cert.Kernel2Ideal.nD Cert.Kernel2Ideal.τ).loc Cert.Kernel2Ideal.main_arg12))
    (h13 : m' ((c.tc : Thread Cert.Reference2Ideal.nD Cert.Reference2Ideal.τ).loc Cert.Reference2Ideal.main_arg13) = m ((c.tc : Thread Cert.Kernel2Ideal.nD Cert.Kernel2Ideal.τ).loc Cert.Kernel2Ideal.main_arg13))
    (h14 : m' ((c.tc : Thread Cert.Reference2Ideal.nD Cert.Reference2Ideal.τ).loc Cert.Reference2Ideal.main_arg14) = m ((c.tc : Thread Cert.Kernel2Ideal.nD Cert.Kernel2Ideal.τ).loc Cert.Kernel2Ideal.main_arg14)) :
    Cert.Reference2Ideal.Value.argsR m' c = Cert.Kernel2Ideal.Value.argsK m c := by
  unfold Cert.Reference2Ideal.Value.argsR Cert.ReferenceIdeal.Value.argsOf Cert.Kernel2Ideal.Value.argsK
  congr 1
  · funext b t k; exact congrFun h0 _
  · funext b i k; exact congrFun h1 _
  · funext b t k
    refine (Cert.Reference2Ideal.Value.mixR_apply _ _ _ _ _ b t k).trans ?_
    rw [h2, h3, h5, h6, h7]
  · funext b t k; exact congrFun h4 _
  · funext i k; exact congrFun h8 _
  · funext k; exact congrFun h9 _
  · funext k n; exact congrFun h10 _
  · funext i n; exact congrFun h11 _
  · funext n; exact congrFun h12 _
  · funext i k; exact congrFun h13 _
  · funext b i n; exact congrFun h14 _

/-- The second call's kernel and reference end with the same two results. -/
theorem algebraic2 : Cert.algebraic_Kernel2Ideal_Reference2Ideal := fun m ρ m' ρ' _ hag =>
  ⟨fun c => Cert.Reference2Ideal.Value.res0 m' c, fun c => Cert.Reference2Ideal.Value.res1 m' c,
    (θ_run _ _ _).mono (fun _ h c => by
      obtain ⟨a0, a1, a2, a3, a4, a5, a6, a7, a8, a9, a10, a11, a12, a13, a14⟩ := hag c
      have e := args_eq2 m m' c a0 a1 a2 a3 a4 a5 a6 a7 a8 a9 a10 a11 a12 a13 a14
      refine ⟨(h c).1.trans (funext fun i => ?_), (h c).2.1.trans (funext fun i => ?_), (h c).2.2⟩
      · refine (congrArg _ (ix3_eta i).symm).trans ((Cert.Kernel2Ideal.Value.G18_apply m c (i 0) (i 1) (i 2)).trans ?_)
        rw [← e]; rfl
      · refine (congrArg _ (ix5_eta i).symm).trans ((Cert.Kernel2Ideal.Value.G19_apply m c (i 0) (i 1) (i 2) (i 3) (i 4)).trans ?_)
        rw [← e]; rfl) (Cert.Kernel2Ideal.Value.run m ρ),
    (θ_run _ _ _).mono (fun _ h => h.1) (Cert.Reference2Ideal.Value.runR m' ρ')⟩

/-- The claims of the four calls. -/
theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  fun m ρ _ => Cert.Kernel.Gen.frame m ρ, fun m ρ _ => Cert.KernelIdeal.Gen.frame m ρ,
  fun m ρ _ => (θ_run _ _ _).mono (fun _ h => ⟨fun c => (h.1 c).2.2, h.2⟩) (Cert.ReferenceIdeal.Value.runR m ρ),
  fun m ρ _ => Cert.Kernel2.Gen.frame m ρ, fun m ρ _ => Cert.Kernel2Ideal.Gen.frame m ρ,
  fun m ρ _ => (θ_run _ _ _).mono (fun _ h => ⟨fun c => (h.1 c).2.2, h.2⟩) (Cert.Reference2Ideal.Value.runR m ρ),
  fun m ρ _ => Cert.Kernel3.Gen.frame m ρ, fun m ρ _ => Cert.Kernel3Ideal.Gen.frame m ρ,
  fun m ρ _ => (θ_run _ _ _).mono (fun _ h => ⟨fun c => (h.1 c).2.2.2, h.2⟩) (Cert.Reference3Ideal.Value.runR m ρ),
  fun m ρ _ => Cert.Kernel4.Gen.frame m ρ, fun m ρ _ => Cert.Kernel4Ideal.Gen.frame m ρ,
  fun m ρ _ => (θ_run _ _ _).mono (fun _ h => ⟨fun c => (h.1 c).2.2.2.2, h.2⟩) (Cert.Reference4Ideal.Value.runR m ρ),
  trivial, algebraic, trivial, algebraic2, trivial, Cert.Od.algebraic, trivial, Cert.Ev.algebraic⟩

end Cert.Proof

end
